-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_n" .f32 0x38EA0EA1#32 ((1 / 8960 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_5)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v1)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v0_2)) (v6 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_5) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_v0_2) = v5 c
          ∧ r.2.mem ((c.tc : Thread Cert.KernelIdeal.nD Cert.KernelIdeal.τ).loc Cert.KernelIdeal.main_v0_3) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_5) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_v5) = v4 c
          ∧ r.2.mem ((c.tc : Thread Cert.ReferenceIdeal.nD Cert.ReferenceIdeal.τ).loc Cert.ReferenceIdeal.main_v0_2) = v5 c
          ∧ r.2.mem ((c.tc : Thread Cert.ReferenceIdeal.nD Cert.ReferenceIdeal.τ).loc Cert.ReferenceIdeal.main_v0_3) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1536 : Shape := ⟨2, ![512, 1536]⟩
abbrev S8960x1536 : Shape := ⟨2, ![8960, 1536]⟩
abbrev S1536x1536 : Shape := ⟨2, ![1536, 1536]⟩
abbrev S512x1 : Shape := ⟨2, ![512, 1]⟩
abbrev S8960x24 : Shape := ⟨2, ![8960, 24]⟩
abbrev S256x1536 : Shape := ⟨2, ![256, 1536]⟩
abbrev S256x24 : Shape := ⟨2, ![256, 24]⟩
abbrev S1536x512 : Shape := ⟨2, ![1536, 512]⟩
abbrev S512x128 : Shape := ⟨2, ![512, 128]⟩
abbrev S1x128 : Shape := ⟨2, ![1, 128]⟩
abbrev S512 : Shape := ⟨1, ![512]⟩
abbrev S256x128 : Shape := ⟨2, ![256, 128]⟩
abbrev S1536x256 : Shape := ⟨2, ![1536, 256]⟩
abbrev S256x256 : Shape := ⟨2, ![256, 256]⟩
abbrev S256 : Shape := ⟨1, ![256]⟩
abbrev S256x1 : Shape := ⟨2, ![256, 1]⟩
abbrev S512x256 : Shape := ⟨2, ![512, 256]⟩
abbrev S2x256 : Shape := ⟨2, ![2, 256]⟩
abbrev S_ : Shape := ⟨0, ![]⟩
abbrev S2x256x1536 : Shape := ⟨3, ![2, 256, 1536]⟩

abbrev nBuf : Space → Nat
  | .hbm => 16
  | .vmem => 19
  | .smem => 0
  | _ => 0

abbrev bufTy : (tb : Table) → Fin (tcTables nBuf tb) → BufTy
  | .hbm, ⟨0, _⟩ => ⟨S512x1536, .bf16⟩
  | .hbm, ⟨1, _⟩ => ⟨S8960x1536, .bf16⟩
  | .hbm, ⟨2, _⟩ => ⟨S1536x1536, .f32⟩
  | .hbm, ⟨3, _⟩ => ⟨S512x1536, .i8⟩
  | .hbm, ⟨4, _⟩ => ⟨S512x1, .f32⟩
  | .hbm, ⟨5, _⟩ => ⟨S8960x1536, .i8⟩
  | .hbm, ⟨6, _⟩ => ⟨S8960x24, .f32⟩
  | .hbm, ⟨7, _⟩ => ⟨S512x1, .f32⟩
  | .hbm, ⟨8, _⟩ => ⟨S1536x1536, .f32⟩
  | .hbm, ⟨9, _⟩ => ⟨S2x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x256x1536, .i8⟩
  | .hbm, ⟨15, _⟩ => ⟨S2x256, .f32⟩
  | .local _ .vmem, ⟨0, _⟩ => ⟨S512x1536, .bf16⟩
  | .local _ .vmem, ⟨1, _⟩ => ⟨S256x1536, .bf16⟩
  | .local _ .vmem, ⟨2, _⟩ => ⟨S256x1536, .bf16⟩
  | .local _ .vmem, ⟨3, _⟩ => ⟨S1536x1536, .f32⟩
  | .local _ .vmem, ⟨4, _⟩ => ⟨S512x1536, .i8⟩
  | .local _ .vmem, ⟨5, _⟩ => ⟨S512x1, .f32⟩
  | .local _ .vmem, ⟨6, _⟩ => ⟨S256x1536, .i8⟩
  | .local _ .vmem, ⟨7, _⟩ => ⟨S256x1536, .i8⟩
  | .local _ .vmem, ⟨8, _⟩ => ⟨S256x24, .f32⟩
  | .local _ .vmem, ⟨9, _⟩ => ⟨S256x24, .f32⟩
  | .local _ .vmem, ⟨10, _⟩ => ⟨S512x1, .f32⟩
  | .local _ .vmem, ⟨11, _⟩ => ⟨S1536x1536, .f32⟩
  | .local _ .vmem, ⟨12, _⟩ => ⟨S1536x1536, .bf16⟩
  | .local _ .vmem, ⟨13, _⟩ => ⟨S512x1536, .bf16⟩
  | .local _ .vmem, ⟨14, _⟩ => ⟨S1536x512, .bf16⟩
  | .local _ .vmem, ⟨15, _⟩ => ⟨S512x128, .f32⟩
  | .local _ .vmem, ⟨16, _⟩ => ⟨S256x1536, .bf16⟩
  | .local _ .vmem, ⟨17, _⟩ => ⟨S512x1536, .f32⟩
  | .local _ .vmem, ⟨18, _⟩ => ⟨S512x128, .f32⟩
  | _, _ => ⟨S512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![35], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_cond2 (i : grid0.Coords) : BitVec 1 :=
  let arg0 : BitVec 32 := BitVec.ofNat 32 (i 0).val
  let c34_i32 : BitVec 32 := 34#32
  let v732 : BitVec 1 := Scalar.cmpi .eq arg0 c34_i32
  let v733 : BitVec 32 := Scalar.extui v732
  let c0_i32_211 : BitVec 32 := 0#32
  let v734 : BitVec 1 := Scalar.cmpi .ne v733 c0_i32_211
  v734

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x24 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_n" => some ((1 / 8960 : ℝ) : EReal)
  | _ => none
-- ==== ReferenceIdeal.lean ====
abbrev S512x1536 : Shape := ⟨2, ![512, 1536]⟩
abbrev S8960x1536 : Shape := ⟨2, ![8960, 1536]⟩
abbrev S1536x1536 : Shape := ⟨2, ![1536, 1536]⟩
abbrev S512x1 : Shape := ⟨2, ![512, 1]⟩
abbrev S8960x24 : Shape := ⟨2, ![8960, 24]⟩
abbrev S512 : Shape := ⟨1, ![512]⟩
abbrev S8960x24x64 : Shape := ⟨3, ![8960, 24, 64]⟩
abbrev S8960x24x1 : Shape := ⟨3, ![8960, 24, 1]⟩
abbrev S512x8960 : Shape := ⟨2, ![512, 8960]⟩
abbrev S8960x512 : Shape := ⟨2, ![8960, 512]⟩
abbrev S1536x512 : Shape := ⟨2, ![1536, 512]⟩
abbrev S1536x8960 : Shape := ⟨2, ![1536, 8960]⟩
abbrev S2x256 : Shape := ⟨2, ![2, 256]⟩
abbrev S_ : Shape := ⟨0, ![]⟩
abbrev S2x256x1536 : Shape := ⟨3, ![2, 256, 1536]⟩

abbrev nBuf : Space → Nat
  | .hbm => 16
  | .vmem => 9
  | .smem => 0
  | _ => 0

abbrev bufTy : (tb : Table) → Fin (tcTables nBuf tb) → BufTy
  | .hbm, ⟨0, _⟩ => ⟨S512x1536, .bf16⟩
  | .hbm, ⟨1, _⟩ => ⟨S8960x1536, .bf16⟩
  | .hbm, ⟨2, _⟩ => ⟨S1536x1536, .f32⟩
  | .hbm, ⟨3, _⟩ => ⟨S512x1536, .i8⟩
  | .hbm, ⟨4, _⟩ => ⟨S512x1, .f32⟩
  | .hbm, ⟨5, _⟩ => ⟨S8960x1536, .i8⟩
  | .hbm, ⟨6, _⟩ => ⟨S8960x24, .f32⟩
  | .hbm, ⟨7, _⟩ => ⟨S512x1, .f32⟩
  | .hbm, ⟨8, _⟩ => ⟨S1536x1536, .f32⟩
  | .hbm, ⟨9, _⟩ => ⟨S2x256, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x256x1536, .i8⟩
  | .hbm, ⟨15, _⟩ => ⟨S2x256, .f32⟩
  | .local _ .vmem, ⟨0, _⟩ => ⟨S512x1536, .bf16⟩
  | .local _ .vmem, ⟨1, _⟩ => ⟨S8960x1536, .bf16⟩
  | .local _ .vmem, ⟨2, _⟩ => ⟨S1536x1536, .f32⟩
  | .local _ .vmem, ⟨3, _⟩ => ⟨S512x1536, .i8⟩
  | .local _ .vmem, ⟨4, _⟩ => ⟨S512x1, .f32⟩
  | .local _ .vmem, ⟨5, _⟩ => ⟨S8960x1536, .i8⟩
  | .local _ .vmem, ⟨6, _⟩ => ⟨S8960x24, .f32⟩
  | .local _ .vmem, ⟨7, _⟩ => ⟨S512x1, .f32⟩
  | .local _ .vmem, ⟨8, _⟩ => ⟨S1536x1536, .f32⟩
  | _, _ => ⟨S512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S512x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8960x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8960x1536 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8960x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Printed.Runs.lean ====
/- The printed kernel around its one region, and what its three kinds of grid point share. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of these extents (`View.cover_of_tiled`) unfolds once per coordinate of the long axes
set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (none here). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- The buffers the host lines after the region write. -/
def later : Finset (Ref sig .tc) := {main_v1, main_cst, main_v2, main_cst_0, main_v3, main_v4, main_v5}
/-- They write no other. -/
theorem sfx_later : ∀ ops ∈ ([hostOps1] : List (List (HloOp τ sig (Elt F)))), ∀ op ∈ ops,
    ∀ b : Ref sig .tc, Proc.devRef .tc b ∈ op.writes → b ∈ later := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl
  all_goals
    simp only [StableHlo.nullary_writes, StableHlo.binary_writes, StableHlo.reshape_writes, Finset.mem_singleton] at hb
    obtain rfl := Proc.devRef_injective _ hb
    simp [later]

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat later (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      (Pipeline.RDat.FramePostR.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 35 = 0 :=
  (fun t => by
    have ht : t.val < 35 := Nat.lt_of_lt_of_eq t.isLt N_0
    have e0 : (grid0.coords t 0).val = t.val / 1 % 35 := Pipeline.Grid.coords_val t 0 (by decide) rfl
    simp only [cond0_0, k0_cond1, e0]
    word_cmp
   : ∀ t : Fin grid0.N, cond0_0 (grid0.coords t) ↔ t.val % 35 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 35 = 34 :=
  (fun t => by
    have ht : t.val < 35 := Nat.lt_of_lt_of_eq t.isLt N_0
    have e0 : (grid0.coords t 0).val = t.val / 1 % 35 := Pipeline.Grid.coords_val t 0 (by decide) rfl
    simp only [cond0_1, k0_cond2, e0]
    word_cmp
   : ∀ t : Fin grid0.N, cond0_1 (grid0.coords t) ↔ t.val % 35 = 34)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1536 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1536 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x24 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x1536 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1536x1536 .bf16 := Memref.whole cc0_scratch0
abbrev scM0_1 : Memref sig .tc .vmem S512x1536 .bf16 := Memref.whole cc0_scratch1
abbrev scM0_2 : Memref sig .tc .vmem S1536x512 .bf16 := Memref.whole cc0_scratch2
abbrev scM0_3 : Memref sig .tc .vmem S512x128 .f32 := Memref.whole cc0_scratch3
abbrev scM0_4 : Memref sig .tc .vmem S256x1536 .bf16 := Memref.whole cc0_scratch4
abbrev scM0_5 : Memref sig .tc .vmem S512x1536 .f32 := Memref.whole cc0_scratch5
abbrev scM0_6 : Memref sig .tc .vmem S512x128 .f32 := Memref.whole cc0_scratch6
/-- The scratch `arg10` the kernel carries between points, as a view: what it holds is stated through it. -/
abbrev VS0_0 : View sig .tc .vmem S1536x1536 .bf16 := scM0_0.view
/-- The scratch `arg11` the kernel carries between points, as a view: what it holds is stated through it. -/
abbrev VS0_1 : View sig .tc .vmem S512x1536 .bf16 := scM0_1.view
/-- The scratch `arg13` the kernel carries between points, as a view: what it holds is stated through it. -/
abbrev VS0_3 : View sig .tc .vmem S512x128 .f32 := scM0_3.view
/-- The scratch `arg15` the kernel carries between points, as a view: what it holds is stated through it. -/
abbrev VS0_5 : View sig .tc .vmem S512x1536 .f32 := scM0_5.view
/-- The scratch `arg16` the kernel carries between points, as a view: what it holds is stated through it. -/
abbrev VS0_6 : View sig .tc .vmem S512x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Printed

end
-- ==== Proof.Printed.RunA.lean ====
/- The body at the first grid point. -/
module

public import proofs.«01_k».proof.Proof.Printed.Runs

@[expose] public section

-- membership in a rectangle of these extents (`View.cover_of_tiled`) unfolds once per coordinate of the long axes
set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8) at anything, handed back at some contents nothing names. -/
noncomputable def kernelRun0_A (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) :
    Σ' (LS0 : List (View.Piece (Elt F) S1536x1536 .bf16)), Σ' (LS1 : List (View.Piece (Elt F) S512x1536 .bf16)), Σ' (LS3 : List (View.Piece (Elt F) S512x128 .f32)), Σ' (LS5 : List (View.Piece (Elt F) S512x1536 .f32)), Σ' (LS6 : List (View.Piece (Elt F) S512x128 .f32)), { LT4 : List (View.Piece (Elt F) S256x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ d, owns (c : Thread nD τ) arg12 fullShare d) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LS5) ∗ (∃ f, arg16.view.loc (c : Thread nD τ) ↦[arg16.view.set]{fullShare} arg16.view.writes (Elt F) f LS6)) -∗ K ⟨⟩))
          ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_grad_eq_skeleton]; unfold cc0_grad_skel
    simp only [k0_part18_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    isplitl [HS1]; · iexists _; iexact HS1
    isplitl [HS2]
    · iexists _, _; isplitr; swap; · iexact HS2
      ipureintro; rfl
    isplitl [HS3]; · iexists _; iexact HS3
    isplitl [HS4]; · iexists _; iexact HS4
    isplitl [HS5]; · iexists _; iexact HS5
    iexists _; iexact HS6

end Cert.Kernel.Printed

end
-- ==== Proof.Printed.RunB.lean ====
/- The body at a middle grid point. -/
module

public import proofs.«01_k».proof.Proof.Printed.RunA

@[expose] public section

-- membership in a rectangle of these extents (`View.cover_of_tiled`) unfolds once per coordinate of the long axes
set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 33: 33 of 35), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8) at anything, handed back at some contents nothing names. -/
noncomputable def kernelRun0_B (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) :
    Σ' (LS0 : List (View.Piece (Elt F) S1536x1536 .bf16)), Σ' (LS1 : List (View.Piece (Elt F) S512x1536 .bf16)), Σ' (LS3 : List (View.Piece (Elt F) S512x128 .f32)), Σ' (LS5 : List (View.Piece (Elt F) S512x1536 .f32)), Σ' (LS6 : List (View.Piece (Elt F) S512x128 .f32)), { LT4 : List (View.Piece (Elt F) S256x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ owns (c : Thread nD τ) arg13 fullShare xs3 ∗ (∃ d, owns (c : Thread nD τ) arg14 fullShare d) ∗ owns (c : Thread nD τ) arg15 fullShare xs5 ∗ owns (c : Thread nD τ) arg16 fullShare xs6
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ owns (c : Thread nD τ) arg13 fullShare xs3 ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LS5) ∗ (∃ f, arg16.view.loc (c : Thread nD τ) ↦[arg16.view.set]{fullShare} arg16.view.writes (Elt F) f LS6)) -∗ K ⟨⟩))
          ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [], ?_, ?_, ?_, fun E K => ?run⟩
  case run =>
    simp only [cc0_grad_eq_skeleton]; unfold cc0_grad_skel
    simp only [k0_part18_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%ds2, %fs2, -, HS2⟩, ⟨%fs3, %hfs3, HS3⟩, ⟨%ds4, %fs4, -, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg10.eq_unread hfs0; obtain rfl := harg11.eq_unread hfs1; obtain rfl := harg13.eq_unread hfs3; obtain rfl := harg15.eq_unread hfs5; obtain rfl := harg16.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg10.read_unread _
      iexact HS0
    isplitl [HS1]
    · iexists _; isplitr; · ipureintro; exact harg11.read_unread _
      iexact HS1
    isplitl [HS2]
    · iexists _, _; isplitr; swap; · iexact HS2
      ipureintro; rfl
    isplitl [HS3]
    · iexists _; isplitr; · ipureintro; exact harg13.read_unread _
      iexact HS3
    isplitl [HS4]; · iexists _; iexact HS4
    isplitl [HS5]; · iexists _; iexact HS5
    iexists _; iexact HS6

end Cert.Kernel.Printed

end
-- ==== Proof.Printed.RunC.lean ====
/- The body at the last grid point. -/
module

public import proofs.«01_k».proof.Proof.Printed.RunB

@[expose] public section

-- membership in a rectangle of these extents (`View.cover_of_tiled`) unfolds once per coordinate of the long axes
set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 34), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5, 6, 7, 8) at anything, handed back at some contents nothing names. -/
noncomputable def kernelRun0_C (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) :
    Σ' (LS0 : List (View.Piece (Elt F) S1536x1536 .bf16)), Σ' (LS1 : List (View.Piece (Elt F) S512x1536 .bf16)), Σ' (LS3 : List (View.Piece (Elt F) S512x128 .f32)), Σ' (LS5 : List (View.Piece (Elt F) S512x1536 .f32)), Σ' (LS6 : List (View.Piece (Elt F) S512x128 .f32)), { LT4 : List (View.Piece (Elt F) S256x1536 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ owns (c : Thread nD τ) arg13 fullShare xs3 ∗ (∃ d, owns (c : Thread nD τ) arg14 fullShare d) ∗ owns (c : Thread nD τ) arg15 fullShare xs5 ∗ owns (c : Thread nD τ) arg16 fullShare xs6
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (∃ d, owns (c : Thread nD τ) arg12 fullShare d) ∗ owns (c : Thread nD τ) arg13 fullShare xs3 ∗ (∃ f, arg14.view.loc (c : Thread nD τ) ↦[arg14.view.set]{fullShare} arg14.view.writes (Elt F) f LT4) ∗ (∃ f, arg15.view.loc (c : Thread nD τ) ↦[arg15.view.set]{fullShare} arg15.view.writes (Elt F) f LS5) ∗ (∃ f, arg16.view.loc (c : Thread nD τ) ↦[arg16.view.set]{fullShare} arg16.view.writes (Elt F) f LS6)) -∗ K ⟨⟩))
          ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], [], [], ?_, ?_, ?_, fun E K => ?run⟩
  case run =>
    simp only [cc0_grad_eq_skeleton]; unfold cc0_grad_skel
    simp only [k0_part18_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, ⟨%ds2, %fs2, -, HS2⟩, ⟨%fs3, %hfs3, HS3⟩, ⟨%ds4, %fs4, -, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg10.eq_unread hfs0; obtain rfl := harg11.eq_unread hfs1; obtain rfl := harg13.eq_unread hfs3; obtain rfl := harg15.eq_unread hfs5; obtain rfl := harg16.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg10.read_unread _
      iexact HS0
    isplitl [HS1]
    · iexists _; isplitr; · ipureintro; exact harg11.read_unread _
      iexact HS1
    isplitl [HS2]
    · iexists _, _; isplitr; swap; · iexact HS2
      ipureintro; rfl
    isplitl [HS3]
    · iexists _; isplitr; · ipureintro; exact harg13.read_unread _
      iexact HS3
    isplitl [HS4]; · iexists _; iexact HS4
    isplitl [HS5]; · iexists _; iexact HS5
    iexists _; iexact HS6

end Cert.Kernel.Printed

end
-- ==== Proof.Printed.Frame.lean ====
/- The printed kernel runs, its arguments end unchanged and every counter ends at zero; nothing is said here of its outputs. -/
module

public import proofs.«01_k».proof.Proof.Printed.RunC
public import Idealize.ShloMosaic.Lib.Claim

@[expose] public section

-- membership in a rectangle of these extents (`View.cover_of_tiled`) unfolds once per coordinate of the long axes
set_option maxRecDepth 16384

noncomputable section

namespace Cert.Kernel.Printed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 1 piece of `S1536x1536` tiling it (Lib/Ring.lean `Piece.tiledL`). -/
theorem scover0_A_0 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) (y : S1536x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).1 S1536x1536.size (by sl_kernel_rfl) y

/-- What case A leaves in scratch `arg10`: its pieces read back over junk. -/
def sout0_A_0 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) : Vec F S1536x1536 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).1)

/-- Case A's pieces for scratch `arg11`, which the kernel carries between points, cover it: 1 piece of `S512x1536` tiling it (Lib/Ring.lean `Piece.tiledL`). -/
theorem scover0_A_1 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) (y : S512x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.1 S512x1536.size (by sl_kernel_rfl) y

/-- What case A leaves in scratch `arg11`: its pieces read back over junk. -/
def sout0_A_1 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) : Vec F S512x1536 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.1)

/-- Case A's pieces for scratch `arg13`, which the kernel carries between points, cover it: 1 piece of `S512x128` tiling it (Lib/Ring.lean `Piece.tiledL`). -/
theorem scover0_A_3 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.2.1 S512x128.size (by sl_kernel_rfl) y

/-- What case A leaves in scratch `arg13`: its pieces read back over junk. -/
def sout0_A_3 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) : Vec F S512x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.2.1)

/-- Case A's pieces for scratch `arg15`, which the kernel carries between points, cover it: 2 pieces of `S512x1536` tiling it (Lib/Ring.lean `Piece.tiledL`). -/
theorem scover0_A_5 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) (y : S512x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.2.2.1 S512x1536.size (by sl_kernel_rfl) y

/-- What case A leaves in scratch `arg15`: its pieces read back over junk. -/
def sout0_A_5 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) : Vec F S512x1536 .f32 :=
  VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.2.2.1)

/-- Case A's pieces for scratch `arg16`, which the kernel carries between points, cover it: 2 pieces of `S512x128` tiling it (Lib/Ring.lean `Piece.tiledL`). -/
theorem scover0_A_6 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.2.2.2.1 S512x128.size (by sl_kernel_rfl) y

/-- What case A leaves in scratch `arg16`: its pieces read back over junk. -/
def sout0_A_6 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) : Vec F S512x128 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2).2.2.2.2.1)

/-- Case B stores nothing into scratch `arg10`: it holds what the point before left. -/
def sout0_B_0 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) : Vec F S1536x1536 .bf16 := xs0

/-- Case B stores nothing into scratch `arg11`: it holds what the point before left. -/
def sout0_B_1 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) : Vec F S512x1536 .bf16 := xs1

/-- Case B stores nothing into scratch `arg13`: it holds what the point before left. -/
def sout0_B_3 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) : Vec F S512x128 .f32 := xs3

/-- Case B's pieces for scratch `arg15`, which the kernel carries between points, cover it: 1 piece of `S512x1536` tiling it (Lib/Ring.lean `Piece.tiledL`). -/
theorem scover0_B_5 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) (y : S512x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.1 S512x1536.size (by sl_kernel_rfl) y

/-- What case B leaves in scratch `arg15`: its pieces read back over junk. -/
def sout0_B_5 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) : Vec F S512x1536 .f32 :=
  VS0_5.read (Elt F) (VS0_5.writes (Elt F) VS0_5.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.1)

/-- Case B's pieces for scratch `arg16`, which the kernel carries between points, cover it: 1 piece of `S512x128` tiling it (Lib/Ring.lean `Piece.tiledL`). -/
theorem scover0_B_6 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) (y : S512x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.2.1 S512x128.size (by sl_kernel_rfl) y

/-- What case B leaves in scratch `arg16`: its pieces read back over junk. -/
def sout0_B_6 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) : Vec F S512x128 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.2.1)

/-- Case C stores nothing into scratch `arg10`: it holds what the point before left. -/
def sout0_C_0 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) : Vec F S1536x1536 .bf16 := xs0

/-- Case C stores nothing into scratch `arg11`: it holds what the point before left. -/
def sout0_C_1 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) : Vec F S512x1536 .bf16 := xs1

/-- Case C stores nothing into scratch `arg13`: it holds what the point before left. -/
def sout0_C_3 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) : Vec F S512x128 .f32 := xs3

/-- Case C's pieces for scratch `arg15`, which the kernel carries between points, cover it: 1 piece of `S512x1536` tiling it (Lib/Ring.lean `Piece.tiledL`). -/
theorem scover0_C_5 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) (y : S512x1536.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.1 S512x1536.size (by sl_kernel_rfl) y

/-- What case C leaves in scratch `arg15`: its pieces read back over junk. -/
def sout0_C_5 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) : Vec F S512x1536 .f32 :=
  VS0_5.read (Elt F) (VS0_5.writes (Elt F) VS0_5.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.1)

/-- Case C's pieces for scratch `arg16`, which the kernel carries between points, cover it: 1 piece of `S512x128` tiling it (Lib/Ring.lean `Piece.tiledL`). -/
theorem scover0_C_6 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) (y : S512x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.2.1 S512x128.size (by sl_kernel_rfl) y

/-- What case C leaves in scratch `arg16`: its pieces read back over junk. -/
def sout0_C_6 (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xs0 : Vec F S1536x1536 .bf16) (xs1 : Vec F S512x1536 .bf16) (xs3 : Vec F S512x128 .f32) (xs5 : Vec F S512x1536 .f32) (xs6 : Vec F S512x128 .f32) : Vec F S512x128 .f32 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xs0 xs1 xs3 xs5 xs6).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x1536 .bf16 × Vec F S512x1536 .bf16 × Vec F S512x128 .f32 × Vec F S512x1536 .f32 × Vec F S512x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 35 = 0 then
      if h1 : (n + 1) % 35 = 34 then
        False.elim (by have hN : n + 1 < 35 := lt_of_lt_of_eq hn (show cfg0.N = 35 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 35 = 34 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 35 = 0) (h1 : ¬t.val % 35 = 34) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 35 = 0) (h1 : ¬t.val % 35 = 34) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 35 = 0) (h1 : t.val % 35 = 34) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2.1) ∗ (∃ d, owns (c : Thread nD τ) scM0_4 fullShare d) ∗ owns (c : Thread nD τ) scM0_5 fullShare ((outsAt0 m c n hn).2.2.2.1) ∗ owns (c : Thread nD τ) scM0_6 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2.1) ∗ (∃ d, owns (c : Thread nD τ) scM0_4 fullShare d) ∗ owns (c : Thread nD τ) scM0_5 fullShare ((outsAt0 m c n hn).2.2.2.1) ∗ owns (c : Thread nD τ) scM0_6 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ (∃ d, owns (c : Thread nD τ) scM0_2 fullShare d) ∗ owns (c : Thread nD τ) scM0_3 fullShare ((outsAt0 m c (n - 1) (by omega)).2.2.1) ∗ (∃ d, owns (c : Thread nD τ) scM0_4 fullShare d) ∗ owns (c : Thread nD τ) scM0_5 fullShare ((outsAt0 m c (n - 1) (by omega)).2.2.2.1) ∗ owns (c : Thread nD τ) scM0_6 fullShare ((outsAt0 m c (n - 1) (by omega)).2.2.2.2)) ∗ (∃ r, prngReg c r)) := by
  cases n with
  | zero => exact absurd rfl hz
  | succ n => rfl

/-! ## The pipeline's proof data -/

/-- The output windows this certificate FORGETS (3, 4, 5, 6, 7, 8): nothing reads what the kernel leaves in them, so nothing
    of it is named (Lib/Pipeline/Dat.lean `Dat.toRForget`). -/
def forgets0 : Fin 9 → Bool := fun w => w.val == 3 || w.val == 4 || w.val == 5 || w.val == 6 || w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 35 := lt_of_lt_of_eq t.isLt (show cfg0.N = 35 from N_0)
  by_cases h0 : t.val % 35 = 0
  · by_cases h1 : t.val % 35 = 34
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      by_cases hz : t.val = 0
      · rw [PhiS_castSucc m c t, PhiS_zero m c _ _ hz, PhiA0_eq]
        rw [outsAt0_A m c t h0 h1]
        unfold sout0_A_0 sout0_A_1 sout0_A_3 sout0_A_5 sout0_A_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t)).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, ⟨%es0, HS0⟩, ⟨%es1, HS1⟩, HS2, ⟨%es3, HS3⟩, ⟨%fT4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            isplitl [HS2]
            · iexact HS2
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _)
            isplitl [HS4]
            · iexists _; unfold owns; iexists _; isplitr
              swap; · iexact HS4
              ipureintro; rfl
            isplitl [HS5]
            · unfold owns; iexists _; isplitr
              swap; · iexact HS5
              ipureintro; exact View.read_writes_of_cover _ _ _ _ _ (scover0_A_5 c _ _ _ _ _ _ _ _ _ _ _ _ _ _ _ _ _ _ _ _ _ _ _ _ _ _ _ _ _ _ _ _ _ _ _ _ _ _)
            unfold owns; iexists _; isplitr
            swap; · iexact HS6
            ipureintro; exact View.read_writes_of_cover _ _ _ _ _ (scover0_A_6 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · exfalso; have hN : t.val < 35 := lt_of_lt_of_eq t.isLt (show cfg0.N = 35 from N_0); omega
  · by_cases h1 : t.val % 35 = 34
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      by_cases hz : t.val = 0
      · exfalso; have hN : t.val < 35 := lt_of_lt_of_eq t.isLt (show cfg0.N = 35 from N_0); omega
      · rw [PhiS_castSucc m c t, PhiS_pos m c _ _ hz]
        rw [outsAt0_C m c t h0 h1]
        unfold sout0_C_0 sout0_C_1 sout0_C_3 sout0_C_5 sout0_C_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) _ _ _ _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, HS0, HS1, HS2, HS3, ⟨%fT4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexists _; unfold owns; iexists _; isplitr
              swap; · iexact HS4
              ipureintro; rfl
            isplitl [HS5]
            · unfold owns; iexists _; isplitr
              swap; · iexact HS5
              ipureintro; exact View.read_writes_of_cover _ _ _ _ _ (scover0_C_5 c _ _ _ _ _ _ _ _ _ _ _ _ _ _ _ _ _ _ _ _ _ _ _ _ _ _ _ _ _ _ _ _ _ _ _ _ _ _ _ _ _ _ _)
            unfold owns; iexists _; isplitr
            swap; · iexact HS6
            ipureintro; exact View.read_writes_of_cover _ _ _ _ _ (scover0_C_6 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      by_cases hz : t.val = 0
      · exfalso; have hN : t.val < 35 := lt_of_lt_of_eq t.isLt (show cfg0.N = 35 from N_0); omega
      · rw [PhiS_castSucc m c t, PhiS_pos m c _ _ hz]
        rw [outsAt0_B m c t h0 h1]
        unfold sout0_B_0 sout0_B_1 sout0_B_3 sout0_B_5 sout0_B_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) _ _ _ _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, HS0, HS1, HS2, HS3, ⟨%fT4, HS4⟩, ⟨%es5, HS5⟩, ⟨%es6, HS6⟩⟩
        isplitl [HS0 HS1 HS2 HS3 HS4 HS5 HS6 Hg]
        · isplitl [HS0 HS1 HS2 HS3 HS4 HS5 HS6]
          · isplitl [HS0]
            · iexact HS0
            isplitl [HS1]
            · iexact HS1
            isplitl [HS2]
            · iexact HS2
            isplitl [HS3]
            · iexact HS3
            isplitl [HS4]
            · iexists _; unfold owns; iexists _; isplitr
              swap; · iexact HS4
              ipureintro; rfl
            isplitl [HS5]
            · unfold owns; iexists _; isplitr
              swap; · iexact HS5
              ipureintro; exact View.read_writes_of_cover _ _ _ _ _ (scover0_B_5 c _ _ _ _ _ _ _ _ _ _ _ _ _ _ _ _ _ _ _ _ _ _ _ _ _ _ _ _ _ _ _ _ _ _ _ _ _ _ _ _ _ _ _)
            unfold owns; iexists _; isplitr
            swap; · iexact HS6
            ipureintro; exact View.read_writes_of_cover _ _ _ _ _ (scover0_B_6 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexact HS2
    isplitl [HS3]
    · iexists _; iexact HS3
    isplitl [HS4]
    · iexact HS4
    isplitl [HS5]
    · iexists _; iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 35 := N_0; omega)

/-! ## The run and the frame -/

-- `θ_run_frame_around_T_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) later (V m)) r ∧ r.2.sem = fun _ => 0) :=
  Pipeline.θ_run_frame_around_T_track_forget (Q' := _) cfgs (dats m) (0 : Fin 1) launch0 defs₀ Variants.none forgets0 later m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_later)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 3, 4, 5, 6, 7, 8) (Lib/Pipeline/Frame.lean `RDat.FramePostR` over the proof data with those windows
    forgotten, Dat.lean `Dat.toRForget`), and every other unscoped buffer that no later host line writes at its region-entry contents. -/
theorem run_main : θ_run defs (onTc (τ := τ) (main (F := F))) (s₀ m ρ) (Pipeline.RDat.FramePostR (cfgs 0) (fun c => (dats m 0 c).toRForget forgets0) later (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: `Cert.quiescent_Kernel` (Defs.lean) at any `F`; Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Printed

end
-- ==== Proof.Grad.Model.lean ====
/- What one grid step of the gradient kernel computes, as functions of the values it loads: the int4 quantiser on a piece of 128
   lanes (two groups of 64), the block's codes, scales and quantised values, and what is added to each accumulator. -/
module

public import proofs.«01_k».proof.Proof.Gen.KernelIdeal.Skeleton
public import Idealize.ShloMosaic.Lib.Pipeline.FrameBody
public import Idealize.ShloMosaic.Lib.Pipeline.ValueKit

@[expose] public section

set_option maxRecDepth 16384

noncomputable section

namespace Cert.KernelIdeal.Grad

open Idealize.ShloMosaic Idealize.ShloMosaic.TcCoe Idealize.SL.Sem
open Cert.KernelIdeal Cert.KernelIdeal.Gen

variable {F : FTy → Type} [FloatOps F] [Named F]

/-- The lane numbers of a piece. -/
def lane : IVec S1x128 32 := iota .tc S1x128 32 [1] iota_S1x128_d1_w32

/-- The first group of a piece: lanes below 64, in every row. -/
def low : IVec S256x128 1 :=
  broadcastTo S256x128 (shapeCast S1x128 (cmpi .slt lane (broadcast S1x128 64#32)) shapeCasts_S1x128_S1x128) broadcasts_S1x128_S256x128

/-- One scalar in every lane. -/
def splat (b : BitVec 32) : FVec F S256x128 .f32 := broadcast S256x128 (Scalar.ofBits .f32 b)

/-- 256 columns of `w rb`. -/
def wr (w : Vec F S256x1536 .bf16) (rs : Vec F S1536x256 .bf16) : FVec F S256x256 .f32 :=
  matmul dot_S256x1536_S1536x256_S256x256_1_0_0_1_n_n none w rs (constant S256x256 .f32 0x00000000#32)

/-- The first 128 of them, -/
def lo (y : FVec F S256x256 .f32) : FVec F S256x128 .f32 := extractStridedSlice S256x128 ![0, 0] y slices_S256x256_o0_0_S256x128
/-- and the last 128. -/
def hi (y : FVec F S256x256 .f32) : FVec F S256x128 .f32 := extractStridedSlice S256x128 ![0, 128] y slices_S256x256_o0_128_S256x128

/-- The largest magnitude of each row over the first group, -/
def m0 (v : FVec F S256x128 .f32) : FVec F S256x1 .f32 :=
  shapeCast S256x1 (multiReduction .maximumf [1] S256 (select low (absf v) (splat 0x00000000#32)) 0xFF800000#32 reduces_S256x128_S256 (.inl rfl) rfl) shapeCasts_S256_S256x1
/-- and over the second. -/
def m1 (v : FVec F S256x128 .f32) : FVec F S256x1 .f32 :=
  shapeCast S256x1 (multiReduction .maximumf [1] S256 (select low (splat 0x00000000#32) (absf v)) 0xFF800000#32 reduces_S256x128_S256 (.inl rfl) rfl) shapeCasts_S256_S256x1

/-- A column in every lane. -/
def cols (a : FVec F S256x1 .f32) : FVec F S256x128 .f32 :=
  broadcastTo S256x128 (shapeCast S256x1 a shapeCasts_S256x1_S256x1) broadcasts_S256x1_S256x128

/-- From largest magnitudes to scales: 1 where there is nothing, else a seventh. -/
def scaleOf (m : FVec F S256x128 .f32) : FVec F S256x128 .f32 :=
  select (cmpf .oeq m (splat 0x00000000#32)) (splat 0x3F800000#32) (divf m (splat 0x40E00000#32))

/-- The scale at each lane of a piece. -/
def sc (v : FVec F S256x128 .f32) : FVec F S256x128 .f32 := scaleOf (select low (cols (m0 v)) (cols (m1 v)))

/-- The rounded and clipped quotient. -/
def q (v : FVec F S256x128 .f32) : FVec F S256x128 .f32 :=
  minimumf (splat 0x40E00000#32) (maximumf (splat 0xC0E00000#32) (roundeven (divf v (sc v))))

/-- The codes, -/
def code (v : FVec F S256x128 .f32) : IVec S256x128 8 := fptosi 8 (q v)
/-- and the values they stand for. -/
def deq (v : FVec F S256x128 .f32) : FVec F S256x128 .bf16 :=
  shapeCast S256x128 (mulf (truncf .bf16 (q v) bitsLt_bf16_f32) (truncf .bf16 (sc v) bitsLt_bf16_f32)) shapeCasts_S256x128_S256x128

/-- Lane `g` alone, in every row. -/
def at_ (g : BitVec 32) : IVec S256x128 1 :=
  broadcastTo S256x128 (shapeCast S1x128 (cmpi .eq lane (broadcast S1x128 g)) shapeCasts_S1x128_S1x128) broadcasts_S1x128_S256x128

/-- A piece's two largest magnitudes put into lanes `g` and `g'` of `acc`. -/
def put (g g' : BitVec 32) (v acc : FVec F S256x128 .f32) : FVec F S256x128 .f32 :=
  select (at_ g) (cols (m0 v)) (select (at_ g') (cols (m1 v)) acc)

variable (w : Vec F S256x1536 .bf16) (rs0 rs1 rs2 rs3 rs4 rs5 : Vec F S1536x256 .bf16)

/-- The pieces of the codes, last stored first, -/
def wcL : List (View.Piece (Elt F) S256x1536 .i8) :=
  [⟨Rect.unit (s := S256x1536) ![0, 1408] S256x128.size inb_S256x1536_S256x128_0_1408, code (hi (wr w rs5))⟩,
   ⟨Rect.unit (s := S256x1536) ![0, 1280] S256x128.size inb_S256x1536_S256x128_0_1280, code (lo (wr w rs5))⟩,
   ⟨Rect.unit (s := S256x1536) ![0, 1152] S256x128.size inb_S256x1536_S256x128_0_1152, code (hi (wr w rs4))⟩,
   ⟨Rect.unit (s := S256x1536) ![0, 1024] S256x128.size inb_S256x1536_S256x128_0_1024, code (lo (wr w rs4))⟩,
   ⟨Rect.unit (s := S256x1536) ![0, 896] S256x128.size inb_S256x1536_S256x128_0_896, code (hi (wr w rs3))⟩,
   ⟨Rect.unit (s := S256x1536) ![0, 768] S256x128.size inb_S256x1536_S256x128_0_768, code (lo (wr w rs3))⟩,
   ⟨Rect.unit (s := S256x1536) ![0, 640] S256x128.size inb_S256x1536_S256x128_0_640, code (hi (wr w rs2))⟩,
   ⟨Rect.unit (s := S256x1536) ![0, 512] S256x128.size inb_S256x1536_S256x128_0_512, code (lo (wr w rs2))⟩,
   ⟨Rect.unit (s := S256x1536) ![0, 384] S256x128.size inb_S256x1536_S256x128_0_384, code (hi (wr w rs1))⟩,
   ⟨Rect.unit (s := S256x1536) ![0, 256] S256x128.size inb_S256x1536_S256x128_0_256, code (lo (wr w rs1))⟩,
   ⟨Rect.unit (s := S256x1536) ![0, 128] S256x128.size inb_S256x1536_S256x128_0_128, code (hi (wr w rs0))⟩,
   ⟨Rect.unit (s := S256x1536) ![0, 0] S256x128.size inb_S256x1536_S256x128_0_0, code (lo (wr w rs0))⟩]

/-- and of the quantised values. -/
def wqL : List (View.Piece (Elt F) S256x1536 .bf16) :=
  [⟨Rect.unit (s := S256x1536) ![0, 1408] S256x128.size inb_S256x1536_S256x128_0_1408, deq (hi (wr w rs5))⟩,
   ⟨Rect.unit (s := S256x1536) ![0, 1280] S256x128.size inb_S256x1536_S256x128_0_1280, deq (lo (wr w rs5))⟩,
   ⟨Rect.unit (s := S256x1536) ![0, 1152] S256x128.size inb_S256x1536_S256x128_0_1152, deq (hi (wr w rs4))⟩,
   ⟨Rect.unit (s := S256x1536) ![0, 1024] S256x128.size inb_S256x1536_S256x128_0_1024, deq (lo (wr w rs4))⟩,
   ⟨Rect.unit (s := S256x1536) ![0, 896] S256x128.size inb_S256x1536_S256x128_0_896, deq (hi (wr w rs3))⟩,
   ⟨Rect.unit (s := S256x1536) ![0, 768] S256x128.size inb_S256x1536_S256x128_0_768, deq (lo (wr w rs3))⟩,
   ⟨Rect.unit (s := S256x1536) ![0, 640] S256x128.size inb_S256x1536_S256x128_0_640, deq (hi (wr w rs2))⟩,
   ⟨Rect.unit (s := S256x1536) ![0, 512] S256x128.size inb_S256x1536_S256x128_0_512, deq (lo (wr w rs2))⟩,
   ⟨Rect.unit (s := S256x1536) ![0, 384] S256x128.size inb_S256x1536_S256x128_0_384, deq (hi (wr w rs1))⟩,
   ⟨Rect.unit (s := S256x1536) ![0, 256] S256x128.size inb_S256x1536_S256x128_0_256, deq (lo (wr w rs1))⟩,
   ⟨Rect.unit (s := S256x1536) ![0, 128] S256x128.size inb_S256x1536_S256x128_0_128, deq (hi (wr w rs0))⟩,
   ⟨Rect.unit (s := S256x1536) ![0, 0] S256x128.size inb_S256x1536_S256x128_0_0, deq (lo (wr w rs0))⟩]

/-- The largest magnitudes of the 24 groups, one to a lane, -/
def mx : FVec F S256x128 .f32 :=
  put 22#32 23#32 (hi (wr w rs5)) <|
  put 20#32 21#32 (lo (wr w rs5)) <|
  put 18#32 19#32 (hi (wr w rs4)) <|
  put 16#32 17#32 (lo (wr w rs4)) <|
  put 14#32 15#32 (hi (wr w rs3)) <|
  put 12#32 13#32 (lo (wr w rs3)) <|
  put 10#32 11#32 (hi (wr w rs2)) <|
  put 8#32 9#32 (lo (wr w rs2)) <|
  put 6#32 7#32 (hi (wr w rs1)) <|
  put 4#32 5#32 (lo (wr w rs1)) <|
  put 2#32 3#32 (hi (wr w rs0)) <|
  put 0#32 1#32 (lo (wr w rs0)) <|
  splat 0x00000000#32

/-- and the scales of the block. -/
def wsL : FVec F S256x24 .f32 := extractStridedSlice S256x24 ![0, 0] (scaleOf (mx w rs0 rs1 rs2 rs3 rs4 rs5)) slices_S256x128_o0_0_S256x24

variable (rb : Vec F S1536x1536 .bf16)

/-- The block's codes, -/
def wcM : Vec F S256x1536 .i8 := View.canon (wcL w
    (View.ld rb (Rect.unit (s := S1536x1536) ![0, 0] S1536x256.size inb_S1536x1536_S1536x256_0_0))
    (View.ld rb (Rect.unit (s := S1536x1536) ![0, 256] S1536x256.size inb_S1536x1536_S1536x256_0_256))
    (View.ld rb (Rect.unit (s := S1536x1536) ![0, 512] S1536x256.size inb_S1536x1536_S1536x256_0_512))
    (View.ld rb (Rect.unit (s := S1536x1536) ![0, 768] S1536x256.size inb_S1536x1536_S1536x256_0_768))
    (View.ld rb (Rect.unit (s := S1536x1536) ![0, 1024] S1536x256.size inb_S1536x1536_S1536x256_0_1024))
    (View.ld rb (Rect.unit (s := S1536x1536) ![0, 1280] S1536x256.size inb_S1536x1536_S1536x256_0_1280)))
/-- quantised values -/
def wqM : Vec F S256x1536 .bf16 := View.canon (wqL w
    (View.ld rb (Rect.unit (s := S1536x1536) ![0, 0] S1536x256.size inb_S1536x1536_S1536x256_0_0))
    (View.ld rb (Rect.unit (s := S1536x1536) ![0, 256] S1536x256.size inb_S1536x1536_S1536x256_0_256))
    (View.ld rb (Rect.unit (s := S1536x1536) ![0, 512] S1536x256.size inb_S1536x1536_S1536x256_0_512))
    (View.ld rb (Rect.unit (s := S1536x1536) ![0, 768] S1536x256.size inb_S1536x1536_S1536x256_0_768))
    (View.ld rb (Rect.unit (s := S1536x1536) ![0, 1024] S1536x256.size inb_S1536x1536_S1536x256_0_1024))
    (View.ld rb (Rect.unit (s := S1536x1536) ![0, 1280] S1536x256.size inb_S1536x1536_S1536x256_0_1280)))
/-- and scales. -/
def wsM : Vec F S256x24 .f32 := wsL w
    (View.ld rb (Rect.unit (s := S1536x1536) ![0, 0] S1536x256.size inb_S1536x1536_S1536x256_0_0))
    (View.ld rb (Rect.unit (s := S1536x1536) ![0, 256] S1536x256.size inb_S1536x1536_S1536x256_0_256))
    (View.ld rb (Rect.unit (s := S1536x1536) ![0, 512] S1536x256.size inb_S1536x1536_S1536x256_0_512))
    (View.ld rb (Rect.unit (s := S1536x1536) ![0, 768] S1536x256.size inb_S1536x1536_S1536x256_0_768))
    (View.ld rb (Rect.unit (s := S1536x1536) ![0, 1024] S1536x256.size inb_S1536x1536_S1536x256_0_1024))
    (View.ld rb (Rect.unit (s := S1536x1536) ![0, 1280] S1536x256.size inb_S1536x1536_S1536x256_0_1280))

/-- What the launch keeps of the tokens: the quantised values, their transpose and the scales, a scale in every lane. -/
structure Toks (F : FTy → Type) [FloatOps F] where
  rb : Vec F S1536x1536 .bf16
  qb : Vec F S512x1536 .bf16
  qt : Vec F S1536x512 .bf16
  sb : Vec F S512x128 .f32

/-- The three accumulators. -/
structure Acc (F : FTy → Type) [FloatOps F] where
  dxr : Vec F S512x1536 .f32
  l2 : Vec F S512x128 .f32
  gt : Vec F S1536x1536 .f32

/-- What the first step stores for the tokens. -/
def toks (x : Vec F S512x1536 .bf16) (r : Vec F S1536x1536 .f32) : Toks F where
  rb := k0_pay4 r
  qb := k0_pay10 x (k0_pay4 r)
  qt := k0_pay13 (k0_pay11 x (k0_pay4 r))
  sb := k0_pay14 (k0_pay6 x (k0_pay4 r))

/-- The accumulators at the start. -/
def acc0 : Acc F where
  dxr := k0_pay15
  l2 := k0_pay16
  gt := k0_pay17

/-- The tokens' scales as a column. -/
def xs1 (sb : Vec F S512x128 .f32) : Vec F S512x1 .f32 :=
  View.ld sb (Rect.unit (s := S512x128) ![0, 0] S512x1.size inb_S512x128_S512x1_0_0)

/-- What one step leaves in the accumulators, from the quantised block `wq`. -/
def stepQ (x : Vec F S512x1536 .bf16) (w wq : Vec F S256x1536 .bf16) (T : Toks F) (A : Acc F) : Acc F where
  dxr := k0_pay157 wq (k0_pay152 w x) (k0_pay153 wq T.qb (xs1 T.sb)) A.dxr
  l2 := k0_pay155 (k0_pay152 w x) (k0_pay153 wq T.qb (xs1 T.sb)) A.l2
  gt := k0_pay1 w (k0_pay158 A.gt) (k0_pay159 (k0_pay152 w x) (xs1 T.sb) (k0_pay153 wq T.qb (xs1 T.sb)) T.qt)

/-- One step. -/
def step (x : Vec F S512x1536 .bf16) (w : Vec F S256x1536 .bf16) (T : Toks F) (A : Acc F) : Acc F := stepQ x w (wqM w T.rb) T A

/-- The last step's own addition. -/
def fin (x : Vec F S512x1536 .bf16) (A : Acc F) : Acc F := { A with gt := k0_pay3 A.gt A.dxr x }

/-- The loss of each token, from the accumulated squares. -/
def ltM (A : Acc F) : Vec F S512x1 .f32 := k0_pay2 A.l2

end Cert.KernelIdeal.Grad

end
-- ==== Proof.Grad.Runs.lean ====
/- What the runs of the gradient call's body share: the two branch conditions in closed form over the grid points, the
   staging and scratch memrefs, and the region's scratch operands as memrefs owned at some contents. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of these extents (`View.cover_of_tiled`) unfolds once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 35 = 0 :=
  (fun t => by
    have ht : t.val < 35 := Nat.lt_of_lt_of_eq t.isLt N_0
    have e0 : (grid0.coords t 0).val = t.val / 1 % 35 := Pipeline.Grid.coords_val t 0 (by decide) rfl
    simp only [cond0_0, k0_cond1, e0]
    word_cmp
   : ∀ t : Fin grid0.N, cond0_0 (grid0.coords t) ↔ t.val % 35 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 35 = 34 :=
  (fun t => by
    have ht : t.val < 35 := Nat.lt_of_lt_of_eq t.isLt N_0
    have e0 : (grid0.coords t 0).val = t.val / 1 % 35 := Pipeline.Grid.coords_val t 0 (by decide) rfl
    simp only [cond0_1, k0_cond2, e0]
    word_cmp
   : ∀ t : Fin grid0.N, cond0_1 (grid0.coords t) ↔ t.val % 35 = 34)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1536 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1536 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x24 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x1536 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1536x1536 .bf16 := Memref.whole cc0_scratch0
abbrev scM0_1 : Memref sig .tc .vmem S512x1536 .bf16 := Memref.whole cc0_scratch1
abbrev scM0_2 : Memref sig .tc .vmem S1536x512 .bf16 := Memref.whole cc0_scratch2
abbrev scM0_3 : Memref sig .tc .vmem S512x128 .f32 := Memref.whole cc0_scratch3
abbrev scM0_4 : Memref sig .tc .vmem S256x1536 .bf16 := Memref.whole cc0_scratch4
abbrev scM0_5 : Memref sig .tc .vmem S512x1536 .f32 := Memref.whole cc0_scratch5
abbrev scM0_6 : Memref sig .tc .vmem S512x128 .f32 := Memref.whole cc0_scratch6
/-- The scratch `arg10` the kernel carries between points, as a view: what it holds is stated through it. -/
abbrev VS0_0 : View sig .tc .vmem S1536x1536 .bf16 := scM0_0.view
/-- The scratch `arg11` the kernel carries between points, as a view: what it holds is stated through it. -/
abbrev VS0_1 : View sig .tc .vmem S512x1536 .bf16 := scM0_1.view
/-- The scratch `arg13` the kernel carries between points, as a view: what it holds is stated through it. -/
abbrev VS0_3 : View sig .tc .vmem S512x128 .f32 := scM0_3.view
/-- The scratch `arg15` the kernel carries between points, as a view: what it holds is stated through it. -/
abbrev VS0_5 : View sig .tc .vmem S512x1536 .f32 := scM0_5.view
/-- The scratch `arg16` the kernel carries between points, as a view: what it holds is stated through it. -/
abbrev VS0_6 : View sig .tc .vmem S512x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.Grad.RunA.lean ====
/- The body of the gradient call run once, at the first point of the grid: the triple of the printed body, with the pieces each
   buffer ends with as the witness the symbolic execution finds. -/
module

public import proofs.«01_k».proof.Proof.Grad.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- What the body's stores leave in each buffer they touch, as pieces (last first), at the first point: `LO·` for the staging
    buffers of the outputs, `LS·` for the scratch buffers; with the proof that the body, run on whole memrefs at the
    stated contents, ends with those pieces written and everything else as it was. -/
noncomputable def kernelRun0_A (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) (xo7 : Vec F S512x1 .f32) :
    Σ' (LO3 : List (View.Piece (Elt F) S512x1536 .i8)), Σ' (LO4 : List (View.Piece (Elt F) S512x1 .f32)), Σ' (LO5 : List (View.Piece (Elt F) S256x1536 .i8)), Σ' (LO6 : List (View.Piece (Elt F) S256x24 .f32)), Σ' (LO8 : List (View.Piece (Elt F) S1536x1536 .f32)), Σ' (LS0 : List (View.Piece (Elt F) S1536x1536 .bf16)), Σ' (LS1 : List (View.Piece (Elt F) S512x1536 .bf16)), Σ' (LS2 : List (View.Piece (Elt F) S1536x512 .bf16)), Σ' (LS3 : List (View.Piece (Elt F) S512x128 .f32)), Σ' (LS4 : List (View.Piece (Elt F) S256x1536 .bf16)), Σ' (LS5 : List (View.Piece (Elt F) S512x1536 .f32)), { LS6 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xo7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f LO3) ∗ (∃ f, arg5.view.loc (c : Thread nD τ) ↦[arg5.view.set]{fullShare} arg5.view.writes (Elt F) f LO4) ∗ (∃ f, arg6.view.loc (c : Thread nD τ) ↦[arg6.view.set]{fullShare} arg6.view.writes (Elt F) f LO5) ∗ (∃ f, arg7.view.loc (c : Thread nD τ) ↦[arg7.view.set]{fullShare} arg7.view.writes (Elt F) f LO6) ∗ owns (c : Thread nD τ) arg8 fullShare xo7 ∗ (∃ f, arg9.view.loc (c : Thread nD τ) ↦[arg9.view.set]{fullShare} arg9.view.writes (Elt F) f LO8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5) ∗ (∃ f, arg16.view.loc (c : Thread nD τ) ↦[arg16.view.set]{fullShare} arg16.view.writes (Elt F) f LS6)) -∗ K ⟨⟩))
          ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, ?_, ?_, ?_, fun E K => ?run⟩
  case run =>
    simp only [cc0_grad_eq_skeleton]; unfold cc0_grad_skel
    simp only [k0_part18_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    isplitl [H7]
    · iexists _; isplitr; · ipureintro; exact harg8.read_unread _
      iexact H7
    isplitl [H8]; · iexists _; iexact H8
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6

end Cert.KernelIdeal.Gen

end
-- ==== Proof.Grad.RunB.lean ====
/- The body of the gradient call run once, at an inner point of the grid: the triple of the printed body, with the pieces each
   buffer ends with as the witness the symbolic execution finds. -/
module

public import proofs.«01_k».proof.Proof.Grad.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- What the body's stores leave in each buffer they touch, as pieces (last first), at an inner point: `LO·` for the staging
    buffers of the outputs, `LS·` for the scratch buffers; with the proof that the body, run on whole memrefs at the
    stated contents, ends with those pieces written and everything else as it was. -/
noncomputable def kernelRun0_B (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xo3 : Vec F S512x1536 .i8) (xo4 : Vec F S512x1 .f32) (xo7 : Vec F S512x1 .f32) (xo8 : Vec F S1536x1536 .f32) (xs0 : Vec F S1536x1536 .bf16) (xs1 : Vec F S512x1536 .bf16) (xs2 : Vec F S1536x512 .bf16) (xs3 : Vec F S512x128 .f32) (xs5 : Vec F S512x1536 .f32) (xs6 : Vec F S512x128 .f32) :
    Σ' (LO5 : List (View.Piece (Elt F) S256x1536 .i8)), Σ' (LO6 : List (View.Piece (Elt F) S256x24 .f32)), Σ' (LO8 : List (View.Piece (Elt F) S1536x1536 .f32)), Σ' (LS4 : List (View.Piece (Elt F) S256x1536 .bf16)), Σ' (LS5 : List (View.Piece (Elt F) S512x1536 .f32)), { LS6 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ (∃ d, owns (c : Thread nD τ) arg6 fullShare d) ∗ (∃ d, owns (c : Thread nD τ) arg7 fullShare d) ∗ owns (c : Thread nD τ) arg8 fullShare xo7 ∗ owns (c : Thread nD τ) arg9 fullShare xo8 ∗ owns (c : Thread nD τ) arg10 fullShare xs0 ∗ owns (c : Thread nD τ) arg11 fullShare xs1 ∗ owns (c : Thread nD τ) arg12 fullShare xs2 ∗ owns (c : Thread nD τ) arg13 fullShare xs3 ∗ (∃ d, owns (c : Thread nD τ) arg14 fullShare d) ∗ owns (c : Thread nD τ) arg15 fullShare xs5 ∗ owns (c : Thread nD τ) arg16 fullShare xs6
            ∗ (iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ (∃ f, arg6.view.loc (c : Thread nD τ) ↦[arg6.view.set]{fullShare} arg6.view.writes (Elt F) f LO5) ∗ (∃ f, arg7.view.loc (c : Thread nD τ) ↦[arg7.view.set]{fullShare} arg7.view.writes (Elt F) f LO6) ∗ owns (c : Thread nD τ) arg8 fullShare xo7 ∗ (∃ f, arg9.view.loc (c : Thread nD τ) ↦[arg9.view.set]{fullShare} arg9.view.writes (Elt F) f LO8) ∗ owns (c : Thread nD τ) arg10 fullShare xs0 ∗ owns (c : Thread nD τ) arg11 fullShare xs1 ∗ owns (c : Thread nD τ) arg12 fullShare xs2 ∗ owns (c : Thread nD τ) arg13 fullShare xs3 ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5) ∗ (∃ f, arg16.view.loc (c : Thread nD τ) ↦[arg16.view.set]{fullShare} arg16.view.writes (Elt F) f LS6)) -∗ K ⟨⟩))
          ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun E K => ?run⟩
  case run =>
    simp only [cc0_grad_eq_skeleton]; unfold cc0_grad_skel
    simp only [k0_part18_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%fs0, %hfs0, HS0⟩, ⟨%fs1, %hfs1, HS1⟩, ⟨%fs2, %hfs2, HS2⟩, ⟨%fs3, %hfs3, HS3⟩, ⟨%ds4, %fs4, -, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hf8; obtain rfl := harg10.eq_unread hfs0; obtain rfl := harg11.eq_unread hfs1; obtain rfl := harg12.eq_unread hfs2; obtain rfl := harg13.eq_unread hfs3; obtain rfl := harg15.eq_unread hfs5; obtain rfl := harg16.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _; isplitr; · ipureintro; exact harg8.read_unread _
      iexact H7
    isplitl [H8]; · iexists _; iexact H8
    isplitl [HS0]
    · iexists _; isplitr; · ipureintro; exact harg10.read_unread _
      iexact HS0
    isplitl [HS1]
    · iexists _; isplitr; · ipureintro; exact harg11.read_unread _
      iexact HS1
    isplitl [HS2]
    · iexists _; isplitr; · ipureintro; exact harg12.read_unread _
      iexact HS2
    isplitl [HS3]
    · iexists _; isplitr; · ipureintro; exact harg13.read_unread _
      iexact HS3
    isplitl [HS4]; · iexists _; iexact HS4
    isplitl [HS5]; · iexists _; iexact HS5
    iexists _; iexact HS6

end Cert.KernelIdeal.Gen

end
-- ==== Proof.Grad.RunC.lean ====
/- The body of the gradient call run once, at the last point of the grid: the triple of the printed body, with the pieces each
   buffer ends with as the witness the symbolic execution finds. -/
module

public import proofs.«01_k».proof.Proof.Grad.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1600000 in
/-- What the body's stores leave in each buffer they touch, as pieces (last first), at the last point: `LO·` for the staging
    buffers of the outputs, `LS·` for the scratch buffers; with the proof that the body, run on whole memrefs at the
    stated contents, ends with those pieces written and everything else as it was. -/
noncomputable def kernelRun0_C (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xo3 : Vec F S512x1536 .i8) (xo4 : Vec F S512x1 .f32) (xo8 : Vec F S1536x1536 .f32) (xs0 : Vec F S1536x1536 .bf16) (xs1 : Vec F S512x1536 .bf16) (xs2 : Vec F S1536x512 .bf16) (xs3 : Vec F S512x128 .f32) (xs5 : Vec F S512x1536 .f32) (xs6 : Vec F S512x128 .f32) :
    Σ' (LO5 : List (View.Piece (Elt F) S256x1536 .i8)), Σ' (LO6 : List (View.Piece (Elt F) S256x24 .f32)), Σ' (LO7 : List (View.Piece (Elt F) S512x1 .f32)), Σ' (LO8 : List (View.Piece (Elt F) S1536x1536 .f32)), Σ' (LS4 : List (View.Piece (Elt F) S256x1536 .bf16)), Σ' (LS5 : List (View.Piece (Elt F) S512x1536 .f32)), { LS6 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xs0 ∗ owns (c : Thread nD τ) arg11 fullShare xs1 ∗ owns (c : Thread nD τ) arg12 fullShare xs2 ∗ owns (c : Thread nD τ) arg13 fullShare xs3 ∗ (∃ d, owns (c : Thread nD τ) arg14 fullShare d) ∗ owns (c : Thread nD τ) arg15 fullShare xs5 ∗ owns (c : Thread nD τ) arg16 fullShare xs6
            ∗ (iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ (∃ f, arg6.view.loc (c : Thread nD τ) ↦[arg6.view.set]{fullShare} arg6.view.writes (Elt F) f LO5) ∗ (∃ f, arg7.view.loc (c : Thread nD τ) ↦[arg7.view.set]{fullShare} arg7.view.writes (Elt F) f LO6) ∗ (∃ f, arg8.view.loc (c : Thread nD τ) ↦[arg8.view.set]{fullShare} arg8.view.writes (Elt F) f LO7) ∗ (∃ f, arg9.view.loc (c : Thread nD τ) ↦[arg9.view.set]{fullShare} arg9.view.writes (Elt F) f LO8) ∗ owns (c : Thread nD τ) arg10 fullShare xs0 ∗ owns (c : Thread nD τ) arg11 fullShare xs1 ∗ owns (c : Thread nD τ) arg12 fullShare xs2 ∗ owns (c : Thread nD τ) arg13 fullShare xs3 ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5) ∗ (∃ f, arg16.view.loc (c : Thread nD τ) ↦[arg16.view.set]{fullShare} arg16.view.writes (Elt F) f LS6)) -∗ K ⟨⟩))
          ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc0_grad_eq_skeleton]; unfold cc0_grad_skel
    simp only [k0_part18_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%fs0, %hfs0, HS0⟩, ⟨%fs1, %hfs1, HS1⟩, ⟨%fs2, %hfs2, HS2⟩, ⟨%fs3, %hfs3, HS3⟩, ⟨%ds4, %fs4, -, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hfs0; obtain rfl := harg11.eq_unread hfs1; obtain rfl := harg12.eq_unread hfs2; obtain rfl := harg13.eq_unread hfs3; obtain rfl := harg15.eq_unread hfs5; obtain rfl := harg16.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [HS0]
    · iexists _; isplitr; · ipureintro; exact harg10.read_unread _
      iexact HS0
    isplitl [HS1]
    · iexists _; isplitr; · ipureintro; exact harg11.read_unread _
      iexact HS1
    isplitl [HS2]
    · iexists _; isplitr; · ipureintro; exact harg12.read_unread _
      iexact HS2
    isplitl [HS3]
    · iexists _; isplitr; · ipureintro; exact harg13.read_unread _
      iexact HS3
    isplitl [HS4]; · iexists _; iexact HS4
    isplitl [HS5]; · iexists _; iexact HS5
    iexists _; iexact HS6

end Cert.KernelIdeal.Gen

end
-- ==== Proof.Grad.ContA.lean ====
/- At the first point of the grid: the pieces the run leaves in each buffer cover it, and hold what the model says. -/
module

public import proofs.«01_k».proof.Proof.Grad.Model
public import proofs.«01_k».proof.Proof.Grad.RunA

@[expose] public section

set_option maxRecDepth 16384

noncomputable section

namespace Cert.KernelIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- A load, through any box, of what one store over a whole buffer left. -/
theorem readCov_whole {s : Shape} {e : EltTy} {κ : Kind} {sp : Space} (v : View sig κ sp s e) {off : Fin s.rank → Nat} (inb : ∀ a, off a + s.size a ≤ s.size a)
    (X : s.Idx → Elt F e) (h : ∀ a, off a = 0) (r : Rect s) :
    v.readCov [(⟨Rect.unit off (no_index s.size) inb, X⟩ : View.Piece (Elt F) s e)] r.toLoadRect = View.ld X r := by
  rw [View.readCov_eq_canon', View.canon_cons_unit_zero (funext h)]

/-- A load of the whole quantised block back. -/
theorem wq_read (v : View sig .tc .vmem S256x1536 .bf16) (L : List (View.Piece (Elt F) S256x1536 .bf16)) :
    v.readCov L (Rect.unit (s := S256x1536) ![0, 0] (no_index S256x1536.size) inb_S256x1536_S256x1536_0_0).toLoadRect = View.canon L :=
  (View.readCov_eq_canon' v L _).trans (View.ld_unit_lit' _ (View.canon L) (by decide))

/-- Pieces that cover a buffer leave it at their contents. -/
theorem owns_of_pieces {s : Shape} {e : EltTy} (c : Dev nD) (a : Memref sig .tc .vmem s e) (L : List (View.Piece (Elt F) s e)) (X : s.Idx → Elt F e)
    (hc : ∀ y, ∃ p ∈ L, y ∈ p.1.set) (hX : View.canon L = X) :
    iprop(∃ f, a.view.loc (c : Thread nD τ) ↦[a.view.set]{fullShare} a.view.writes (Elt F) f L) ⊢ (owns (c : Thread nD τ) a fullShare X : sProp 𝕄) := by
  iintro ⟨%f, H⟩
  unfold owns; iexists _; isplitr
  swap; · iexact H
  ipureintro; exact (View.read_writes_eq_canon _ _ _ hc).trans hX

variable (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) (xo7 : Vec F S512x1 .f32)

/-- At the first point the stores into the tokens' codes cover them, -/
theorem cover_A_O3 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).1, y ∈ p.1.set := fun y =>
  View.cover_of_tiledL _ S512x1536.size (by sl_kernel_rfl) y

/-- and leave this. -/
theorem cont_A_O3 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).1 = k0_pay8 x0 (k0_pay4 x2) := by
  refine (View.canon_cons_unit_zero (by decide) _ _ _).trans ?_
  show k0_pay8 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect) = _
  simp (discharger := decide) only [harg1.read_unread, harg2.read_unread, harg3.read_unread, View.ld_unit_lit', readCov_whole, wq_read]
  try rfl

/-- At the first point the stores into the tokens' scales cover them, -/
theorem cover_A_O4 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.1, y ∈ p.1.set := fun y =>
  View.cover_of_tiledL _ S512x1.size (by sl_kernel_rfl) y

/-- and leave this. -/
theorem cont_A_O4 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.1 = k0_pay6 x0 (k0_pay4 x2) := by
  refine (View.canon_cons_unit_zero (by decide) _ _ _).trans ?_
  show k0_pay6 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect) = _
  simp (discharger := decide) only [harg1.read_unread, harg2.read_unread, harg3.read_unread, View.ld_unit_lit', readCov_whole, wq_read]
  try rfl

/-- At the first point the stores into the block's codes cover them, -/
theorem cover_A_O5 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.1, y ∈ p.1.set := fun y =>
  View.cover_of_tiledL _ ![256, 128] (by sl_kernel_rfl) y

/-- and leave this. -/
theorem cont_A_O5 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.1 = wcM x1 (k0_pay4 x2) := by
  show View.canon (wcL (View.ld (arg2.view.read (Elt F) (harg2.unread x1)) (Rect.unit (s := S256x1536) ![0, 0] S256x1536.size inb_S256x1536_S256x1536_0_0))
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x256.size inb_S1536x1536_S1536x256_0_0).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 256] S1536x256.size inb_S1536x1536_S1536x256_0_256).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 512] S1536x256.size inb_S1536x1536_S1536x256_0_512).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 768] S1536x256.size inb_S1536x1536_S1536x256_0_768).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1024] S1536x256.size inb_S1536x1536_S1536x256_0_1024).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1280] S1536x256.size inb_S1536x1536_S1536x256_0_1280).toLoadRect)) = _
  rw [harg2.read_unread, harg3.read_unread, View.ld_unit_lit' _ _ (by decide), View.ld_unit_lit' _ _ (by decide)]
  iterate 6 rw [readCov_whole _ _ _ (by decide)]
  try rfl

/-- At the first point the stores into the block's scales cover them, -/
theorem cover_A_O6 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.1, y ∈ p.1.set := fun y =>
  View.cover_of_tiledL _ S256x24.size (by sl_kernel_rfl) y

/-- and leave this. -/
theorem cont_A_O6 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.1 = wsM x1 (k0_pay4 x2) := by
  refine (View.canon_cons_unit_zero (by decide) _ _ _).trans ?_
  show wsL (View.ld (arg2.view.read (Elt F) (harg2.unread x1)) (Rect.unit (s := S256x1536) ![0, 0] S256x1536.size inb_S256x1536_S256x1536_0_0))
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x256.size inb_S1536x1536_S1536x256_0_0).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 256] S1536x256.size inb_S1536x1536_S1536x256_0_256).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 512] S1536x256.size inb_S1536x1536_S1536x256_0_512).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 768] S1536x256.size inb_S1536x1536_S1536x256_0_768).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1024] S1536x256.size inb_S1536x1536_S1536x256_0_1024).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1280] S1536x256.size inb_S1536x1536_S1536x256_0_1280).toLoadRect) = _
  rw [harg2.read_unread, harg3.read_unread, View.ld_unit_lit' _ _ (by decide), View.ld_unit_lit' _ _ (by decide)]
  iterate 6 rw [readCov_whole _ _ _ (by decide)]
  try rfl

/-- At the first point the stores into the gradient cover them, -/
theorem cover_A_O8 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.1, y ∈ p.1.set := fun y =>
  View.cover_of_tiledL _ S1536x1536.size (by sl_kernel_rfl) y

/-- and leave this. -/
theorem cont_A_O8 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.1 = (step x0 x1 (toks x0 x2) acc0).gt := by
  refine (View.canon_cons_unit_zero (by decide) _ _ _).trans ?_
  show k0_pay1 (View.ld (arg2.view.read (Elt F) (harg2.unread x1)) (Rect.unit (s := S256x1536) ![0, 0] S256x1536.size inb_S256x1536_S256x1536_0_0)) (k0_pay158 (arg9.view.readCov [⟨Rect.unit (s := S1536x1536) ![0, 0] S1536x1536.size inb_S1536x1536_S1536x1536_0_0, k0_pay17⟩] (Rect.unit (s := S1536x1536) ![0, 0] S1536x1536.size inb_S1536x1536_S1536x1536_0_0).toLoadRect)) (k0_pay159 (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (arg13.view.readCov [⟨Rect.unit (s := S512x128) ![0, 0] S512x128.size inb_S512x128_S512x128_0_0, k0_pay14 (k0_pay6 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect))⟩] (Rect.unit (s := S512x128) ![0, 0] S512x1.size inb_S512x128_S512x1_0_0).toLoadRect) (k0_pay153 (arg14.view.readCov (wqL (View.ld (arg2.view.read (Elt F) (harg2.unread x1)) (Rect.unit (s := S256x1536) ![0, 0] S256x1536.size inb_S256x1536_S256x1536_0_0))
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x256.size inb_S1536x1536_S1536x256_0_0).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 256] S1536x256.size inb_S1536x1536_S1536x256_0_256).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 512] S1536x256.size inb_S1536x1536_S1536x256_0_512).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 768] S1536x256.size inb_S1536x1536_S1536x256_0_768).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1024] S1536x256.size inb_S1536x1536_S1536x256_0_1024).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1280] S1536x256.size inb_S1536x1536_S1536x256_0_1280).toLoadRect)) (Rect.unit (s := S256x1536) ![0, 0] S256x1536.size inb_S256x1536_S256x1536_0_0).toLoadRect) (arg11.view.readCov [⟨Rect.unit (s := S512x1536) ![0, 0] S512x1536.size inb_S512x1536_S512x1536_0_0, k0_pay10 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect)⟩] (Rect.unit (s := S512x1536) ![0, 0] S512x1536.size inb_S512x1536_S512x1536_0_0).toLoadRect) (arg13.view.readCov [⟨Rect.unit (s := S512x128) ![0, 0] S512x128.size inb_S512x128_S512x128_0_0, k0_pay14 (k0_pay6 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect))⟩] (Rect.unit (s := S512x128) ![0, 0] S512x1.size inb_S512x128_S512x1_0_0).toLoadRect)) (arg12.view.readCov [⟨Rect.unit (s := S1536x512) ![0, 0] S1536x512.size inb_S1536x512_S1536x512_0_0, k0_pay13 (k0_pay11 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect))⟩] (Rect.unit (s := S1536x512) ![0, 0] S1536x512.size inb_S1536x512_S1536x512_0_0).toLoadRect)) = _
  simp (discharger := decide) only [harg1.read_unread, harg2.read_unread, harg3.read_unread, View.ld_unit_lit', readCov_whole, wq_read]
  try rfl

/-- At the first point the stores into the rounded rotation cover them, -/
theorem cover_A_S0 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.1, y ∈ p.1.set := fun y =>
  View.cover_of_tiledL _ S1536x1536.size (by sl_kernel_rfl) y

/-- and leave this. -/
theorem cont_A_S0 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.1 = (toks x0 x2).rb := by
  refine (View.canon_cons_unit_zero (by decide) _ _ _).trans ?_
  show k0_pay4 (View.ld (arg3.view.read (Elt F) (harg3.unread x2)) (Rect.unit (s := S1536x1536) ![0, 0] S1536x1536.size inb_S1536x1536_S1536x1536_0_0)) = _
  simp (discharger := decide) only [harg1.read_unread, harg2.read_unread, harg3.read_unread, View.ld_unit_lit', readCov_whole, wq_read]
  try rfl

/-- At the first point the stores into the tokens' quantised values cover them, -/
theorem cover_A_S1 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.1, y ∈ p.1.set := fun y =>
  View.cover_of_tiledL _ S512x1536.size (by sl_kernel_rfl) y

/-- and leave this. -/
theorem cont_A_S1 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.1 = (toks x0 x2).qb := by
  refine (View.canon_cons_unit_zero (by decide) _ _ _).trans ?_
  show k0_pay10 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect) = _
  simp (discharger := decide) only [harg1.read_unread, harg2.read_unread, harg3.read_unread, View.ld_unit_lit', readCov_whole, wq_read]
  try rfl

/-- At the first point the stores into their transpose cover them, -/
theorem cover_A_S2 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.1, y ∈ p.1.set := fun y =>
  View.cover_of_tiledL _ S1536x512.size (by sl_kernel_rfl) y

/-- and leave this. -/
theorem cont_A_S2 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.1 = (toks x0 x2).qt := by
  refine (View.canon_cons_unit_zero (by decide) _ _ _).trans ?_
  show k0_pay13 (k0_pay11 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect)) = _
  simp (discharger := decide) only [harg1.read_unread, harg2.read_unread, harg3.read_unread, View.ld_unit_lit', readCov_whole, wq_read]
  try rfl

/-- At the first point the stores into their scales cover them, -/
theorem cover_A_S3 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.2.1, y ∈ p.1.set := fun y =>
  View.cover_of_tiledL _ S512x128.size (by sl_kernel_rfl) y

/-- and leave this. -/
theorem cont_A_S3 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.2.1 = (toks x0 x2).sb := by
  refine (View.canon_cons_unit_zero (by decide) _ _ _).trans ?_
  show k0_pay14 (k0_pay6 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect)) = _
  simp (discharger := decide) only [harg1.read_unread, harg2.read_unread, harg3.read_unread, View.ld_unit_lit', readCov_whole, wq_read]
  try rfl

/-- At the first point the stores into the block's quantised values cover them, -/
theorem cover_A_S4 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.2.2.1, y ∈ p.1.set := fun y =>
  View.cover_of_tiledL _ ![256, 128] (by sl_kernel_rfl) y

/-- and leave this. -/
theorem cont_A_S4 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.2.2.1 = wqM x1 (k0_pay4 x2) := by
  show View.canon (wqL (View.ld (arg2.view.read (Elt F) (harg2.unread x1)) (Rect.unit (s := S256x1536) ![0, 0] S256x1536.size inb_S256x1536_S256x1536_0_0))
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x256.size inb_S1536x1536_S1536x256_0_0).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 256] S1536x256.size inb_S1536x1536_S1536x256_0_256).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 512] S1536x256.size inb_S1536x1536_S1536x256_0_512).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 768] S1536x256.size inb_S1536x1536_S1536x256_0_768).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1024] S1536x256.size inb_S1536x1536_S1536x256_0_1024).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1280] S1536x256.size inb_S1536x1536_S1536x256_0_1280).toLoadRect)) = _
  rw [harg2.read_unread, harg3.read_unread, View.ld_unit_lit' _ _ (by decide), View.ld_unit_lit' _ _ (by decide)]
  iterate 6 rw [readCov_whole _ _ _ (by decide)]
  try rfl

/-- At the first point the stores into the accumulated input gradient cover them, -/
theorem cover_A_S5 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.2.2.2.1, y ∈ p.1.set := fun y =>
  View.cover_of_tiledL _ S512x1536.size (by sl_kernel_rfl) y

/-- and leave this. -/
theorem cont_A_S5 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.2.2.2.1 = (step x0 x1 (toks x0 x2) acc0).dxr := by
  refine (View.canon_cons_unit_zero (by decide) _ _ _).trans ?_
  show k0_pay157 (arg14.view.readCov (wqL (View.ld (arg2.view.read (Elt F) (harg2.unread x1)) (Rect.unit (s := S256x1536) ![0, 0] S256x1536.size inb_S256x1536_S256x1536_0_0))
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x256.size inb_S1536x1536_S1536x256_0_0).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 256] S1536x256.size inb_S1536x1536_S1536x256_0_256).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 512] S1536x256.size inb_S1536x1536_S1536x256_0_512).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 768] S1536x256.size inb_S1536x1536_S1536x256_0_768).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1024] S1536x256.size inb_S1536x1536_S1536x256_0_1024).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1280] S1536x256.size inb_S1536x1536_S1536x256_0_1280).toLoadRect)) (Rect.unit (s := S256x1536) ![0, 0] S256x1536.size inb_S256x1536_S256x1536_0_0).toLoadRect) (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (k0_pay153 (arg14.view.readCov (wqL (View.ld (arg2.view.read (Elt F) (harg2.unread x1)) (Rect.unit (s := S256x1536) ![0, 0] S256x1536.size inb_S256x1536_S256x1536_0_0))
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x256.size inb_S1536x1536_S1536x256_0_0).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 256] S1536x256.size inb_S1536x1536_S1536x256_0_256).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 512] S1536x256.size inb_S1536x1536_S1536x256_0_512).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 768] S1536x256.size inb_S1536x1536_S1536x256_0_768).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1024] S1536x256.size inb_S1536x1536_S1536x256_0_1024).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1280] S1536x256.size inb_S1536x1536_S1536x256_0_1280).toLoadRect)) (Rect.unit (s := S256x1536) ![0, 0] S256x1536.size inb_S256x1536_S256x1536_0_0).toLoadRect) (arg11.view.readCov [⟨Rect.unit (s := S512x1536) ![0, 0] S512x1536.size inb_S512x1536_S512x1536_0_0, k0_pay10 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect)⟩] (Rect.unit (s := S512x1536) ![0, 0] S512x1536.size inb_S512x1536_S512x1536_0_0).toLoadRect) (arg13.view.readCov [⟨Rect.unit (s := S512x128) ![0, 0] S512x128.size inb_S512x128_S512x128_0_0, k0_pay14 (k0_pay6 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect))⟩] (Rect.unit (s := S512x128) ![0, 0] S512x1.size inb_S512x128_S512x1_0_0).toLoadRect)) (arg15.view.readCov [⟨Rect.unit (s := S512x1536) ![0, 0] S512x1536.size inb_S512x1536_S512x1536_0_0, k0_pay15⟩] (Rect.unit (s := S512x1536) ![0, 0] S512x1536.size inb_S512x1536_S512x1536_0_0).toLoadRect) = _
  simp (discharger := decide) only [harg1.read_unread, harg2.read_unread, harg3.read_unread, View.ld_unit_lit', readCov_whole, wq_read]
  try rfl

/-- At the first point the stores into the accumulated squares cover them, -/
theorem cover_A_S6 : ∀ y, ∃ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.2.2.2.2.1, y ∈ p.1.set := fun y =>
  View.cover_of_tiledL _ S512x128.size (by sl_kernel_rfl) y

/-- and leave this. -/
theorem cont_A_S6 : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.2.2.2.2.1 = (step x0 x1 (toks x0 x2) acc0).l2 := by
  refine (View.canon_cons_unit_zero (by decide) _ _ _).trans ?_
  show k0_pay155 (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (k0_pay153 (arg14.view.readCov (wqL (View.ld (arg2.view.read (Elt F) (harg2.unread x1)) (Rect.unit (s := S256x1536) ![0, 0] S256x1536.size inb_S256x1536_S256x1536_0_0))
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x256.size inb_S1536x1536_S1536x256_0_0).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 256] S1536x256.size inb_S1536x1536_S1536x256_0_256).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 512] S1536x256.size inb_S1536x1536_S1536x256_0_512).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 768] S1536x256.size inb_S1536x1536_S1536x256_0_768).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1024] S1536x256.size inb_S1536x1536_S1536x256_0_1024).toLoadRect)
    (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 1280] S1536x256.size inb_S1536x1536_S1536x256_0_1280).toLoadRect)) (Rect.unit (s := S256x1536) ![0, 0] S256x1536.size inb_S256x1536_S256x1536_0_0).toLoadRect) (arg11.view.readCov [⟨Rect.unit (s := S512x1536) ![0, 0] S512x1536.size inb_S512x1536_S512x1536_0_0, k0_pay10 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect)⟩] (Rect.unit (s := S512x1536) ![0, 0] S512x1536.size inb_S512x1536_S512x1536_0_0).toLoadRect) (arg13.view.readCov [⟨Rect.unit (s := S512x128) ![0, 0] S512x128.size inb_S512x128_S512x128_0_0, k0_pay14 (k0_pay6 (View.ld (arg1.view.read (Elt F) (harg1.unread x0)) (Rect.unit (s := S512x1536) ![0, 0] S512x1536.size inb_S512x1536_S512x1536_0_0)) (arg10.view.readCov [⟨Rect.unit (s := S1536x1536) ![0, 0] S1536x1536.size inb_S1536x1536_S1536x1536_0_0, k0_pay4 (View.ld (arg3.view.read (Elt F) (harg3.unread x2)) (Rect.unit (s := S1536x1536) ![0, 0] S1536x1536.size inb_S1536x1536_S1536x1536_0_0))⟩] (Rect.unit (s := S1536x1536) ![0, 0] S1536x1536.size inb_S1536x1536_S1536x1536_0_0).toLoadRect))⟩] (Rect.unit (s := S512x128) ![0, 0] S512x1.size inb_S512x128_S512x1_0_0).toLoadRect)) (arg16.view.readCov [⟨Rect.unit (s := S512x128) ![0, 0] S512x128.size inb_S512x128_S512x128_0_0, k0_pay16⟩] (Rect.unit (s := S512x128) ![0, 0] S512x128.size inb_S512x128_S512x128_0_0).toLoadRect) = _
  simp (discharger := decide) only [harg1.read_unread, harg2.read_unread, harg3.read_unread, View.ld_unit_lit', readCov_whole, wq_read]
  try rfl

end Cert.KernelIdeal.Grad

end
-- ==== Proof.Grad.ContB.lean ====
/- At an inner point of the grid: the pieces the run leaves in each buffer cover it, and hold what the model says. -/
module

public import proofs.«01_k».proof.Proof.Grad.Model
public import proofs.«01_k».proof.Proof.Grad.RunB
public import proofs.«01_k».proof.Proof.Grad.ContA

@[expose] public section

set_option maxRecDepth 16384

noncomputable section

namespace Cert.KernelIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xo3 : Vec F S512x1536 .i8) (xo4 : Vec F S512x1 .f32) (xo7 : Vec F S512x1 .f32) (xo8 : Vec F S1536x1536 .f32) (xs0 : Vec F S1536x1536 .bf16) (xs1 : Vec F S512x1536 .bf16) (xs2 : Vec F S1536x512 .bf16) (xs3 : Vec F S512x128 .f32) (xs5 : Vec F S512x1536 .f32) (xs6 : Vec F S512x128 .f32)

/-- At an inner point the stores into the block's codes cover them, -/
theorem cover_B_O5 : ∀ y, ∃ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).1, y ∈ p.1.set := fun y =>
  View.cover_of_tiledL _ ![256, 128] (by sl_kernel_rfl) y

/-- and leave this. -/
theorem cont_B_O5 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).1 = wcM x1 xs0 := by
  show View.canon (wcL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) = _
  rw [harg2.read_unread, harg10.read_unread, View.ld_unit_lit' _ _ (by decide)]; rfl

/-- At an inner point the stores into the block's scales cover them, -/
theorem cover_B_O6 : ∀ y, ∃ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.1, y ∈ p.1.set := fun y =>
  View.cover_of_tiledL _ S256x24.size (by sl_kernel_rfl) y

/-- and leave this. -/
theorem cont_B_O6 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.1 = wsM x1 xs0 := by
  refine (View.canon_cons_unit_zero (by decide) _ _ _).trans ?_
  show wsL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280)) = _
  rw [harg2.read_unread, harg10.read_unread, View.ld_unit_lit' _ _ (by decide)]; rfl

/-- At an inner point the stores into the gradient cover them, -/
theorem cover_B_O8 : ∀ y, ∃ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.2.1, y ∈ p.1.set := fun y =>
  View.cover_of_tiledL _ S1536x1536.size (by sl_kernel_rfl) y

/-- and leave this. -/
theorem cont_B_O8 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.2.1 = (step x0 x1 ⟨xs0, xs1, xs2, xs3⟩ ⟨xs5, xs6, xo8⟩).gt := by
  refine (View.canon_cons_unit_zero (by decide) _ _ _).trans ?_
  show k0_pay1 (View.ld (arg2.view.read (Elt F) (harg2.unread x1)) (Rect.unit (s := S256x1536) ![0, 0] S256x1536.size inb_S256x1536_S256x1536_0_0)) (k0_pay158 (View.ld (arg9.view.read (Elt F) (harg9.unread xo8)) (Rect.unit (s := S1536x1536) ![0, 0] S1536x1536.size inb_S1536x1536_S1536x1536_0_0))) (k0_pay159 (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (View.ld (arg13.view.read (Elt F) (harg13.unread xs3)) (Rect.unit (s := S512x128) ![0, 0] S512x1.size inb_S512x128_S512x1_0_0)) (k0_pay153 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (View.ld (arg11.view.read (Elt F) (harg11.unread xs1)) (Rect.unit (s := S512x1536) ![0, 0] S512x1536.size inb_S512x1536_S512x1536_0_0)) (View.ld (arg13.view.read (Elt F) (harg13.unread xs3)) (Rect.unit (s := S512x128) ![0, 0] S512x1.size inb_S512x128_S512x1_0_0))) (View.ld (arg12.view.read (Elt F) (harg12.unread xs2)) (Rect.unit (s := S1536x512) ![0, 0] S1536x512.size inb_S1536x512_S1536x512_0_0))) = _
  simp (discharger := decide) only [harg1.read_unread, harg2.read_unread, harg10.read_unread, harg11.read_unread, harg12.read_unread, harg13.read_unread, harg15.read_unread, harg16.read_unread, harg9.read_unread, View.ld_unit_lit', readCov_whole, wq_read]
  try rfl

/-- At an inner point the stores into the block's quantised values cover them, -/
theorem cover_B_S4 : ∀ y, ∃ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.2.2.1, y ∈ p.1.set := fun y =>
  View.cover_of_tiledL _ ![256, 128] (by sl_kernel_rfl) y

/-- and leave this. -/
theorem cont_B_S4 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.2.2.1 = wqM x1 xs0 := by
  show View.canon (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) = _
  rw [harg2.read_unread, harg10.read_unread, View.ld_unit_lit' _ _ (by decide)]; rfl

/-- At an inner point the stores into the accumulated input gradient cover them, -/
theorem cover_B_S5 : ∀ y, ∃ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.2.2.2.1, y ∈ p.1.set := fun y =>
  View.cover_of_tiledL _ S512x1536.size (by sl_kernel_rfl) y

/-- and leave this. -/
theorem cont_B_S5 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.2.2.2.1 = (step x0 x1 ⟨xs0, xs1, xs2, xs3⟩ ⟨xs5, xs6, xo8⟩).dxr := by
  refine (View.canon_cons_unit_zero (by decide) _ _ _).trans ?_
  show k0_pay157 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (k0_pay153 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (View.ld (arg11.view.read (Elt F) (harg11.unread xs1)) (Rect.unit (s := S512x1536) ![0, 0] S512x1536.size inb_S512x1536_S512x1536_0_0)) (View.ld (arg13.view.read (Elt F) (harg13.unread xs3)) (Rect.unit (s := S512x128) ![0, 0] S512x1.size inb_S512x128_S512x1_0_0))) (View.ld (arg15.view.read (Elt F) (harg15.unread xs5)) (Rect.unit (s := S512x1536) ![0, 0] S512x1536.size inb_S512x1536_S512x1536_0_0)) = _
  simp (discharger := decide) only [harg1.read_unread, harg2.read_unread, harg10.read_unread, harg11.read_unread, harg12.read_unread, harg13.read_unread, harg15.read_unread, harg16.read_unread, harg9.read_unread, View.ld_unit_lit', readCov_whole, wq_read]
  try rfl

/-- At an inner point the stores into the accumulated squares cover them, -/
theorem cover_B_S6 : ∀ y, ∃ p ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.2.2.2.2.1, y ∈ p.1.set := fun y =>
  View.cover_of_tiledL _ S512x128.size (by sl_kernel_rfl) y

/-- and leave this. -/
theorem cont_B_S6 : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.2.2.2.2.1 = (step x0 x1 ⟨xs0, xs1, xs2, xs3⟩ ⟨xs5, xs6, xo8⟩).l2 := by
  refine (View.canon_cons_unit_zero (by decide) _ _ _).trans ?_
  show k0_pay155 (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (k0_pay153 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (View.ld (arg11.view.read (Elt F) (harg11.unread xs1)) (Rect.unit (s := S512x1536) ![0, 0] S512x1536.size inb_S512x1536_S512x1536_0_0)) (View.ld (arg13.view.read (Elt F) (harg13.unread xs3)) (Rect.unit (s := S512x128) ![0, 0] S512x1.size inb_S512x128_S512x1_0_0))) (View.ld (arg16.view.read (Elt F) (harg16.unread xs6)) (Rect.unit (s := S512x128) ![0, 0] S512x128.size inb_S512x128_S512x128_0_0)) = _
  simp (discharger := decide) only [harg1.read_unread, harg2.read_unread, harg10.read_unread, harg11.read_unread, harg12.read_unread, harg13.read_unread, harg15.read_unread, harg16.read_unread, harg9.read_unread, View.ld_unit_lit', readCov_whole, wq_read]
  try rfl

end Cert.KernelIdeal.Grad

end
-- ==== Proof.Grad.ContC.lean ====
/- At the last point of the grid: the pieces the run leaves in each buffer cover it, and hold what the model says. -/
module

public import proofs.«01_k».proof.Proof.Grad.Model
public import proofs.«01_k».proof.Proof.Grad.RunC
public import proofs.«01_k».proof.Proof.Grad.ContA

@[expose] public section

set_option maxRecDepth 16384

noncomputable section

namespace Cert.KernelIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xo3 : Vec F S512x1536 .i8) (xo4 : Vec F S512x1 .f32) (xo8 : Vec F S1536x1536 .f32) (xs0 : Vec F S1536x1536 .bf16) (xs1 : Vec F S512x1536 .bf16) (xs2 : Vec F S1536x512 .bf16) (xs3 : Vec F S512x128 .f32) (xs5 : Vec F S512x1536 .f32) (xs6 : Vec F S512x128 .f32)

/-- At the last point the stores into the block's codes cover them, -/
theorem cover_C_O5 : ∀ y, ∃ p ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).1, y ∈ p.1.set := fun y =>
  View.cover_of_tiledL _ ![256, 128] (by sl_kernel_rfl) y

/-- and leave this. -/
theorem cont_C_O5 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).1 = wcM x1 xs0 := by
  show View.canon (wcL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) = _
  rw [harg2.read_unread, harg10.read_unread, View.ld_unit_lit' _ _ (by decide)]; rfl

/-- At the last point the stores into the block's scales cover them, -/
theorem cover_C_O6 : ∀ y, ∃ p ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.1, y ∈ p.1.set := fun y =>
  View.cover_of_tiledL _ S256x24.size (by sl_kernel_rfl) y

/-- and leave this. -/
theorem cont_C_O6 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.1 = wsM x1 xs0 := by
  refine (View.canon_cons_unit_zero (by decide) _ _ _).trans ?_
  show wsL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280)) = _
  rw [harg2.read_unread, harg10.read_unread, View.ld_unit_lit' _ _ (by decide)]; rfl

/-- At the last point the stores into the losses cover them, -/
theorem cover_C_O7 : ∀ y, ∃ p ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.1, y ∈ p.1.set := fun y =>
  View.cover_of_tiledL _ S512x1.size (by sl_kernel_rfl) y

/-- and leave this. -/
theorem cont_C_O7 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.1 = ltM (step x0 x1 ⟨xs0, xs1, xs2, xs3⟩ ⟨xs5, xs6, xo8⟩) := by
  refine (View.canon_cons_unit_zero (by decide) _ _ _).trans ?_
  show k0_pay2 (arg16.view.readCov [⟨Rect.unit (s := S512x128) ![0, 0] S512x128.size inb_S512x128_S512x128_0_0, k0_pay155 (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (k0_pay153 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (View.ld (arg11.view.read (Elt F) (harg11.unread xs1)) (Rect.unit (s := S512x1536) ![0, 0] S512x1536.size inb_S512x1536_S512x1536_0_0)) (View.ld (arg13.view.read (Elt F) (harg13.unread xs3)) (Rect.unit (s := S512x128) ![0, 0] S512x1.size inb_S512x128_S512x1_0_0))) (View.ld (arg16.view.read (Elt F) (harg16.unread xs6)) (Rect.unit (s := S512x128) ![0, 0] S512x128.size inb_S512x128_S512x128_0_0))⟩] (Rect.unit (s := S512x128) ![0, 0] S512x128.size inb_S512x128_S512x128_0_0).toLoadRect) = _
  simp (discharger := decide) only [harg1.read_unread, harg2.read_unread, harg10.read_unread, harg11.read_unread, harg12.read_unread, harg13.read_unread, harg15.read_unread, harg16.read_unread, harg9.read_unread, View.ld_unit_lit', readCov_whole, wq_read]
  try rfl

/-- At the last point the stores into the gradient cover them, -/
theorem cover_C_O8 : ∀ y, ∃ p ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.2.1, y ∈ p.1.set := fun y =>
  View.cover_of_tiledL _ S1536x1536.size (by sl_kernel_rfl) y

/-- and leave this. -/
theorem cont_C_O8 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.2.1 = (fin x0 (step x0 x1 ⟨xs0, xs1, xs2, xs3⟩ ⟨xs5, xs6, xo8⟩)).gt := by
  refine (View.canon_cons_unit_zero (by decide) _ _ _).trans ?_
  show k0_pay3 (arg9.view.readCov [⟨Rect.unit (s := S1536x1536) ![0, 0] S1536x1536.size inb_S1536x1536_S1536x1536_0_0, k0_pay1 (View.ld (arg2.view.read (Elt F) (harg2.unread x1)) (Rect.unit (s := S256x1536) ![0, 0] S256x1536.size inb_S256x1536_S256x1536_0_0)) (k0_pay158 (View.ld (arg9.view.read (Elt F) (harg9.unread xo8)) (Rect.unit (s := S1536x1536) ![0, 0] S1536x1536.size inb_S1536x1536_S1536x1536_0_0))) (k0_pay159 (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (View.ld (arg13.view.read (Elt F) (harg13.unread xs3)) (Rect.unit (s := S512x128) ![0, 0] S512x1.size inb_S512x128_S512x1_0_0)) (k0_pay153 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (View.ld (arg11.view.read (Elt F) (harg11.unread xs1)) (Rect.unit (s := S512x1536) ![0, 0] S512x1536.size inb_S512x1536_S512x1536_0_0)) (View.ld (arg13.view.read (Elt F) (harg13.unread xs3)) (Rect.unit (s := S512x128) ![0, 0] S512x1.size inb_S512x128_S512x1_0_0))) (View.ld (arg12.view.read (Elt F) (harg12.unread xs2)) (Rect.unit (s := S1536x512) ![0, 0] S1536x512.size inb_S1536x512_S1536x512_0_0)))⟩] (Rect.unit (s := S1536x1536) ![0, 0] S1536x1536.size inb_S1536x1536_S1536x1536_0_0).toLoadRect) (arg15.view.readCov [⟨Rect.unit (s := S512x1536) ![0, 0] S512x1536.size inb_S512x1536_S512x1536_0_0, k0_pay157 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (k0_pay153 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (View.ld (arg11.view.read (Elt F) (harg11.unread xs1)) (Rect.unit (s := S512x1536) ![0, 0] S512x1536.size inb_S512x1536_S512x1536_0_0)) (View.ld (arg13.view.read (Elt F) (harg13.unread xs3)) (Rect.unit (s := S512x128) ![0, 0] S512x1.size inb_S512x128_S512x1_0_0))) (View.ld (arg15.view.read (Elt F) (harg15.unread xs5)) (Rect.unit (s := S512x1536) ![0, 0] S512x1536.size inb_S512x1536_S512x1536_0_0))⟩] (Rect.unit (s := S512x1536) ![0, 0] S512x1536.size inb_S512x1536_S512x1536_0_0).toLoadRect) (View.ld (arg1.view.read (Elt F) (harg1.unread x0)) (Rect.unit (s := S512x1536) ![0, 0] S512x1536.size inb_S512x1536_S512x1536_0_0)) = _
  simp (discharger := decide) only [harg1.read_unread, harg2.read_unread, harg10.read_unread, harg11.read_unread, harg12.read_unread, harg13.read_unread, harg15.read_unread, harg16.read_unread, harg9.read_unread, View.ld_unit_lit', readCov_whole, wq_read]
  try rfl

/-- At the last point the stores into the block's quantised values cover them, -/
theorem cover_C_S4 : ∀ y, ∃ p ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.2.2.1, y ∈ p.1.set := fun y =>
  View.cover_of_tiledL _ ![256, 128] (by sl_kernel_rfl) y

/-- and leave this. -/
theorem cont_C_S4 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.2.2.1 = wqM x1 xs0 := by
  show View.canon (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) = _
  rw [harg2.read_unread, harg10.read_unread, View.ld_unit_lit' _ _ (by decide)]; rfl

/-- At the last point the stores into the accumulated input gradient cover them, -/
theorem cover_C_S5 : ∀ y, ∃ p ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.2.2.2.1, y ∈ p.1.set := fun y =>
  View.cover_of_tiledL _ S512x1536.size (by sl_kernel_rfl) y

/-- and leave this. -/
theorem cont_C_S5 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.2.2.2.1 = (step x0 x1 ⟨xs0, xs1, xs2, xs3⟩ ⟨xs5, xs6, xo8⟩).dxr := by
  refine (View.canon_cons_unit_zero (by decide) _ _ _).trans ?_
  show k0_pay157 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (k0_pay153 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (View.ld (arg11.view.read (Elt F) (harg11.unread xs1)) (Rect.unit (s := S512x1536) ![0, 0] S512x1536.size inb_S512x1536_S512x1536_0_0)) (View.ld (arg13.view.read (Elt F) (harg13.unread xs3)) (Rect.unit (s := S512x128) ![0, 0] S512x1.size inb_S512x128_S512x1_0_0))) (View.ld (arg15.view.read (Elt F) (harg15.unread xs5)) (Rect.unit (s := S512x1536) ![0, 0] S512x1536.size inb_S512x1536_S512x1536_0_0)) = _
  simp (discharger := decide) only [harg1.read_unread, harg2.read_unread, harg10.read_unread, harg11.read_unread, harg12.read_unread, harg13.read_unread, harg15.read_unread, harg16.read_unread, harg9.read_unread, View.ld_unit_lit', readCov_whole, wq_read]
  try rfl

/-- At the last point the stores into the accumulated squares cover them, -/
theorem cover_C_S6 : ∀ y, ∃ p ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.2.2.2.2.1, y ∈ p.1.set := fun y =>
  View.cover_of_tiledL _ S512x128.size (by sl_kernel_rfl) y

/-- and leave this. -/
theorem cont_C_S6 : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.2.2.2.2.1 = (step x0 x1 ⟨xs0, xs1, xs2, xs3⟩ ⟨xs5, xs6, xo8⟩).l2 := by
  refine (View.canon_cons_unit_zero (by decide) _ _ _).trans ?_
  show k0_pay155 (k0_pay152 (View.ld (arg2.view.read (Elt F) (harg2.unread x1)) (Rect.unit (s := S256x1536) ![0, 0] S256x1536.size inb_S256x1536_S256x1536_0_0)) (View.ld (arg1.view.read (Elt F) (harg1.unread x0)) (Rect.unit (s := S512x1536) ![0, 0] S512x1536.size inb_S512x1536_S512x1536_0_0))) (k0_pay153 (arg14.view.readCov (wqL (View.ld (arg2.view.read (Elt F) (harg2.unread x1)) (Rect.unit (s := S256x1536) ![0, 0] S256x1536.size inb_S256x1536_S256x1536_0_0))
    (View.ld (arg10.view.read (Elt F) (harg10.unread xs0)) (Rect.unit (s := S1536x1536) ![0, 0] S1536x256.size inb_S1536x1536_S1536x256_0_0))
    (View.ld (arg10.view.read (Elt F) (harg10.unread xs0)) (Rect.unit (s := S1536x1536) ![0, 256] S1536x256.size inb_S1536x1536_S1536x256_0_256))
    (View.ld (arg10.view.read (Elt F) (harg10.unread xs0)) (Rect.unit (s := S1536x1536) ![0, 512] S1536x256.size inb_S1536x1536_S1536x256_0_512))
    (View.ld (arg10.view.read (Elt F) (harg10.unread xs0)) (Rect.unit (s := S1536x1536) ![0, 768] S1536x256.size inb_S1536x1536_S1536x256_0_768))
    (View.ld (arg10.view.read (Elt F) (harg10.unread xs0)) (Rect.unit (s := S1536x1536) ![0, 1024] S1536x256.size inb_S1536x1536_S1536x256_0_1024))
    (View.ld (arg10.view.read (Elt F) (harg10.unread xs0)) (Rect.unit (s := S1536x1536) ![0, 1280] S1536x256.size inb_S1536x1536_S1536x256_0_1280))) (Rect.unit (s := S256x1536) ![0, 0] S256x1536.size inb_S256x1536_S256x1536_0_0).toLoadRect) (View.ld (arg11.view.read (Elt F) (harg11.unread xs1)) (Rect.unit (s := S512x1536) ![0, 0] S512x1536.size inb_S512x1536_S512x1536_0_0)) (View.ld (arg13.view.read (Elt F) (harg13.unread xs3)) (Rect.unit (s := S512x128) ![0, 0] S512x1.size inb_S512x128_S512x1_0_0))) (View.ld (arg16.view.read (Elt F) (harg16.unread xs6)) (Rect.unit (s := S512x128) ![0, 0] S512x128.size inb_S512x128_S512x128_0_0)) = _
  simp (discharger := decide) only [harg1.read_unread, harg2.read_unread, harg10.read_unread, harg11.read_unread, harg12.read_unread, harg13.read_unread, harg15.read_unread, harg16.read_unread, harg9.read_unread, View.ld_unit_lit', readCov_whole, wq_read]
  try rfl

end Cert.KernelIdeal.Grad

end
-- ==== Proof.Grad.Body.lean ====
/- The body of the gradient call at each kind of grid point, from named contents to named contents. -/
module

public import proofs.«01_k».proof.Proof.Grad.Model
public import proofs.«01_k».proof.Proof.Grad.RunC
public import proofs.«01_k».proof.Proof.Grad.ContA
public import proofs.«01_k».proof.Proof.Grad.ContB
public import proofs.«01_k».proof.Proof.Grad.ContC

@[expose] public section

set_option maxRecDepth 16384

noncomputable section

namespace Cert.KernelIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

set_option maxHeartbeats 3200000 in
/-- At the first point: the body, run on whole buffers at these contents, leaves these. -/
theorem run_A (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : cond0_0 i) (hc1 : ¬cond0_1 i)
    (x0 : Vec F S512x1536 .bf16) (x1 : Vec F S256x1536 .bf16) (x2 : Vec F S1536x1536 .f32) (xo7 : Vec F S512x1 .f32)
    :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xo7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare (k0_pay8 x0 (k0_pay4 x2)) ∗ owns (c : Thread nD τ) arg5 fullShare (k0_pay6 x0 (k0_pay4 x2)) ∗ owns (c : Thread nD τ) arg6 fullShare (wcM x1 (k0_pay4 x2)) ∗ owns (c : Thread nD τ) arg7 fullShare (wsM x1 (k0_pay4 x2)) ∗ owns (c : Thread nD τ) arg8 fullShare xo7 ∗ owns (c : Thread nD τ) arg9 fullShare ((step x0 x1 (toks x0 x2) acc0).gt) ∗ owns (c : Thread nD τ) arg10 fullShare ((toks x0 x2).rb) ∗ owns (c : Thread nD τ) arg11 fullShare ((toks x0 x2).qb) ∗ owns (c : Thread nD τ) arg12 fullShare ((toks x0 x2).qt) ∗ owns (c : Thread nD τ) arg13 fullShare ((toks x0 x2).sb) ∗ owns (c : Thread nD τ) arg14 fullShare (wqM x1 (k0_pay4 x2)) ∗ owns (c : Thread nD τ) arg15 fullShare ((step x0 x1 (toks x0 x2) acc0).dxr) ∗ owns (c : Thread nD τ) arg16 fullShare ((step x0 x1 (toks x0 x2) acc0).l2)) -∗ K ⟨⟩))
          ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  iintro ⟨H0, H1, H2, H3, H4, H5, H6, H7, H8, HS0, HS1, HS2, HS3, HS4, HS5, HS6, Hk⟩
  iapply ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7).2.2.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, HS0, HS1, HS2, HS3, HS4, HS5, HS6⟩
  iapply Hk
  isplitl [H0]
  · iexact H0
  isplitl [H1]
  · iexact H1
  isplitl [H2]
  · iexact H2
  isplitl [H3]
  · iapply (owns_of_pieces c _ _ _ (cover_A_O3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_O3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact H3
  isplitl [H4]
  · iapply (owns_of_pieces c _ _ _ (cover_A_O4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_O4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact H4
  isplitl [H5]
  · iapply (owns_of_pieces c _ _ _ (cover_A_O5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_O5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact H5
  isplitl [H6]
  · iapply (owns_of_pieces c _ _ _ (cover_A_O6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_O6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact H6
  isplitl [H7]
  · iexact H7
  isplitl [H8]
  · iapply (owns_of_pieces c _ _ _ (cover_A_O8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_O8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact H8
  isplitl [HS0]
  · iapply (owns_of_pieces c _ _ _ (cover_A_S0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_S0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact HS0
  isplitl [HS1]
  · iapply (owns_of_pieces c _ _ _ (cover_A_S1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_S1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact HS1
  isplitl [HS2]
  · iapply (owns_of_pieces c _ _ _ (cover_A_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact HS2
  isplitl [HS3]
  · iapply (owns_of_pieces c _ _ _ (cover_A_S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact HS3
  isplitl [HS4]
  · iapply (owns_of_pieces c _ _ _ (cover_A_S4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_S4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact HS4
  isplitl [HS5]
  · iapply (owns_of_pieces c _ _ _ (cover_A_S5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_S5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact HS5
  iapply (owns_of_pieces c _ _ _ (cover_A_S6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7) (cont_A_S6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo7)); iexact HS6

set_option maxHeartbeats 3200000 in
/-- At an inner point: the body, run on whole buffers at these contents, leaves these. -/
theorem run_B (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : ¬cond0_1 i)
    (x0 : Vec F S512x1536 .bf16) (x1 : Vec F S256x1536 .bf16) (x2 : Vec F S1536x1536 .f32) (xo3 : Vec F S512x1536 .i8) (xo4 : Vec F S512x1 .f32) (xo7 : Vec F S512x1 .f32) (xo8 : Vec F S1536x1536 .f32) (xs0 : Vec F S1536x1536 .bf16) (xs1 : Vec F S512x1536 .bf16) (xs2 : Vec F S1536x512 .bf16) (xs3 : Vec F S512x128 .f32) (xs5 : Vec F S512x1536 .f32) (xs6 : Vec F S512x128 .f32)
    :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ (∃ d, owns (c : Thread nD τ) arg6 fullShare d) ∗ (∃ d, owns (c : Thread nD τ) arg7 fullShare d) ∗ owns (c : Thread nD τ) arg8 fullShare xo7 ∗ owns (c : Thread nD τ) arg9 fullShare xo8 ∗ owns (c : Thread nD τ) arg10 fullShare xs0 ∗ owns (c : Thread nD τ) arg11 fullShare xs1 ∗ owns (c : Thread nD τ) arg12 fullShare xs2 ∗ owns (c : Thread nD τ) arg13 fullShare xs3 ∗ (∃ d, owns (c : Thread nD τ) arg14 fullShare d) ∗ owns (c : Thread nD τ) arg15 fullShare xs5 ∗ owns (c : Thread nD τ) arg16 fullShare xs6
            ∗ (iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ owns (c : Thread nD τ) arg6 fullShare (wcM x1 xs0) ∗ owns (c : Thread nD τ) arg7 fullShare (wsM x1 xs0) ∗ owns (c : Thread nD τ) arg8 fullShare xo7 ∗ owns (c : Thread nD τ) arg9 fullShare ((step x0 x1 ⟨xs0, xs1, xs2, xs3⟩ ⟨xs5, xs6, xo8⟩).gt) ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare (wqM x1 xs0) ∗ owns (c : Thread nD τ) arg15 fullShare ((step x0 x1 ⟨xs0, xs1, xs2, xs3⟩ ⟨xs5, xs6, xo8⟩).dxr) ∗ owns (c : Thread nD τ) arg16 fullShare ((step x0 x1 ⟨xs0, xs1, xs2, xs3⟩ ⟨xs5, xs6, xo8⟩).l2)) -∗ K ⟨⟩))
          ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  iintro ⟨H0, H1, H2, H3, H4, H5, H6, H7, H8, HS0, HS1, HS2, HS3, HS4, HS5, HS6, Hk⟩
  iapply ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6).2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, HS0, HS1, HS2, HS3, HS4, HS5, HS6⟩
  iapply Hk
  isplitl [H0]
  · iexact H0
  isplitl [H1]
  · iexact H1
  isplitl [H2]
  · iexact H2
  isplitl [H3]
  · iexact H3
  isplitl [H4]
  · iexact H4
  isplitl [H5]
  · iapply (owns_of_pieces c _ _ _ (cover_B_O5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6) (cont_B_O5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6)); iexact H5
  isplitl [H6]
  · iapply (owns_of_pieces c _ _ _ (cover_B_O6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6) (cont_B_O6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6)); iexact H6
  isplitl [H7]
  · iexact H7
  isplitl [H8]
  · iapply (owns_of_pieces c _ _ _ (cover_B_O8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6) (cont_B_O8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6)); iexact H8
  isplitl [HS0]
  · iexact HS0
  isplitl [HS1]
  · iexact HS1
  isplitl [HS2]
  · iexact HS2
  isplitl [HS3]
  · iexact HS3
  isplitl [HS4]
  · iapply (owns_of_pieces c _ _ _ (cover_B_S4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6) (cont_B_S4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6)); iexact HS4
  isplitl [HS5]
  · iapply (owns_of_pieces c _ _ _ (cover_B_S5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6) (cont_B_S5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6)); iexact HS5
  iapply (owns_of_pieces c _ _ _ (cover_B_S6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6) (cont_B_S6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo7 xo8 xs0 xs1 xs2 xs3 xs5 xs6)); iexact HS6

set_option maxHeartbeats 3200000 in
/-- At the last point: the body, run on whole buffers at these contents, leaves these. -/
theorem run_C (c : Dev nD) (i : grid0.Coords) (arg1 : Memref sig .tc .vmem S512x1536 .bf16) (harg1 : arg1.IsWhole) (arg2 : Memref sig .tc .vmem S256x1536 .bf16) (harg2 : arg2.IsWhole) (arg3 : Memref sig .tc .vmem S1536x1536 .f32) (harg3 : arg3.IsWhole) (arg4 : Memref sig .tc .vmem S512x1536 .i8) (harg4 : arg4.IsWhole) (arg5 : Memref sig .tc .vmem S512x1 .f32) (harg5 : arg5.IsWhole) (arg6 : Memref sig .tc .vmem S256x1536 .i8) (harg6 : arg6.IsWhole) (arg7 : Memref sig .tc .vmem S256x24 .f32) (harg7 : arg7.IsWhole) (arg8 : Memref sig .tc .vmem S512x1 .f32) (harg8 : arg8.IsWhole) (arg9 : Memref sig .tc .vmem S1536x1536 .f32) (harg9 : arg9.IsWhole) (arg10 : Memref sig .tc .vmem S1536x1536 .bf16) (harg10 : arg10.IsWhole) (arg11 : Memref sig .tc .vmem S512x1536 .bf16) (harg11 : arg11.IsWhole) (arg12 : Memref sig .tc .vmem S1536x512 .bf16) (harg12 : arg12.IsWhole) (arg13 : Memref sig .tc .vmem S512x128 .f32) (harg13 : arg13.IsWhole) (arg14 : Memref sig .tc .vmem S256x1536 .bf16) (harg14 : arg14.IsWhole) (arg15 : Memref sig .tc .vmem S512x1536 .f32) (harg15 : arg15.IsWhole) (arg16 : Memref sig .tc .vmem S512x128 .f32) (harg16 : arg16.IsWhole) (hc0 : ¬cond0_0 i) (hc1 : cond0_1 i)
    (x0 : Vec F S512x1536 .bf16) (x1 : Vec F S256x1536 .bf16) (x2 : Vec F S1536x1536 .f32) (xo3 : Vec F S512x1536 .i8) (xo4 : Vec F S512x1 .f32) (xo8 : Vec F S1536x1536 .f32) (xs0 : Vec F S1536x1536 .bf16) (xs1 : Vec F S512x1536 .bf16) (xs2 : Vec F S1536x512 .bf16) (xs3 : Vec F S512x128 .f32) (xs5 : Vec F S512x1536 .f32) (xs6 : Vec F S512x128 .f32)
    :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xs0 ∗ owns (c : Thread nD τ) arg11 fullShare xs1 ∗ owns (c : Thread nD τ) arg12 fullShare xs2 ∗ owns (c : Thread nD τ) arg13 fullShare xs3 ∗ (∃ d, owns (c : Thread nD τ) arg14 fullShare d) ∗ owns (c : Thread nD τ) arg15 fullShare xs5 ∗ owns (c : Thread nD τ) arg16 fullShare xs6
            ∗ (iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ owns (c : Thread nD τ) arg6 fullShare (wcM x1 xs0) ∗ owns (c : Thread nD τ) arg7 fullShare (wsM x1 xs0) ∗ owns (c : Thread nD τ) arg8 fullShare (ltM (step x0 x1 ⟨xs0, xs1, xs2, xs3⟩ ⟨xs5, xs6, xo8⟩)) ∗ owns (c : Thread nD τ) arg9 fullShare ((fin x0 (step x0 x1 ⟨xs0, xs1, xs2, xs3⟩ ⟨xs5, xs6, xo8⟩)).gt) ∗ owns (c : Thread nD τ) arg10 fullShare xs0 ∗ owns (c : Thread nD τ) arg11 fullShare xs1 ∗ owns (c : Thread nD τ) arg12 fullShare xs2 ∗ owns (c : Thread nD τ) arg13 fullShare xs3 ∗ owns (c : Thread nD τ) arg14 fullShare (wqM x1 xs0) ∗ owns (c : Thread nD τ) arg15 fullShare ((step x0 x1 ⟨xs0, xs1, xs2, xs3⟩ ⟨xs5, xs6, xo8⟩).dxr) ∗ owns (c : Thread nD τ) arg16 fullShare ((step x0 x1 ⟨xs0, xs1, xs2, xs3⟩ ⟨xs5, xs6, xo8⟩).l2)) -∗ K ⟨⟩))
          ⊢ wp frame (wpE (defs₀ (F := F)) Variants.none c none) E (cc0_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  intro E K
  iintro ⟨H0, H1, H2, H3, H4, H5, H6, H7, H8, HS0, HS1, HS2, HS3, HS4, HS5, HS6, Hk⟩
  iapply ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, HS0, HS1, HS2, HS3, HS4, HS5, HS6⟩
  iapply Hk
  isplitl [H0]
  · iexact H0
  isplitl [H1]
  · iexact H1
  isplitl [H2]
  · iexact H2
  isplitl [H3]
  · iexact H3
  isplitl [H4]
  · iexact H4
  isplitl [H5]
  · iapply (owns_of_pieces c _ _ _ (cover_C_O5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6) (cont_C_O5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6)); iexact H5
  isplitl [H6]
  · iapply (owns_of_pieces c _ _ _ (cover_C_O6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6) (cont_C_O6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6)); iexact H6
  isplitl [H7]
  · iapply (owns_of_pieces c _ _ _ (cover_C_O7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6) (cont_C_O7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6)); iexact H7
  isplitl [H8]
  · iapply (owns_of_pieces c _ _ _ (cover_C_O8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6) (cont_C_O8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6)); iexact H8
  isplitl [HS0]
  · iexact HS0
  isplitl [HS1]
  · iexact HS1
  isplitl [HS2]
  · iexact HS2
  isplitl [HS3]
  · iexact HS3
  isplitl [HS4]
  · iapply (owns_of_pieces c _ _ _ (cover_C_S4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6) (cont_C_S4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6)); iexact HS4
  isplitl [HS5]
  · iapply (owns_of_pieces c _ _ _ (cover_C_S5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6) (cont_C_S5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6)); iexact HS5
  iapply (owns_of_pieces c _ _ _ (cover_C_S6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6) (cont_C_S6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 xo3 xo4 xo8 xs0 xs1 xs2 xs3 xs5 xs6)); iexact HS6

end Cert.KernelIdeal.Grad

end
-- ==== Proof.Grad.Frame.lean ====
/- The gradient call's run, with every output named: at each grid point what the accumulators hold, and at the end the
   contents of every output array. -/
module

public import proofs.«01_k».proof.Proof.Grad.Model
public import proofs.«01_k».proof.Proof.Grad.RunC
public import proofs.«01_k».proof.Proof.Grad.Body
public import Idealize.ShloMosaic.Lib.Pipeline.TableIdle
@[expose] public section

set_option maxRecDepth 16384

noncomputable section

namespace Cert.KernelIdeal.Grad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first grid point. -/
def first : Fin cfg0.N := ⟨0, by have := N_0; show 0 < cfg0.N; have e : cfg0.N = 35 := N_0; omega⟩

theorem lt35 (t : Fin cfg0.N) : t.val < 35 := lt_of_lt_of_eq t.isLt (show cfg0.N = 35 from N_0)

/-- What the first point keeps of the tokens and the rotation. -/
def T0 (c : Dev nD) : Toks F := toks (iblk m c 0 first) (iblk m c 2 first)

/-- The accumulators after point `n`. -/
def accAt (c : Dev nD) : (n : ℕ) → n < cfg0.N → Acc F
  | 0, h => step (iblk m c 0 ⟨0, h⟩) (iblk m c 1 ⟨0, h⟩) (T0 m c) acc0
  | n + 1, h => step (iblk m c 0 ⟨n + 1, h⟩) (iblk m c 1 ⟨n + 1, h⟩) (T0 m c) (accAt c n (Nat.lt_of_succ_lt h))

theorem accAt_pos (c : Dev nD) (t : Fin cfg0.N) (ht : t.val ≠ 0) :
    accAt m c t.val t.isLt = step (iblk m c 0 t) (iblk m c 1 t) (T0 m c)
      (accAt m c (t.val - 1) (Nat.lt_of_le_of_lt (Nat.sub_le _ _) t.isLt)) := by
  obtain ⟨n, hn⟩ := t
  cases n with
  | zero => exact absurd rfl ht
  | succ n => rfl

/-- The token codes and the token scales, stored at the first point. -/
def XC (c : Dev nD) : S512x1536.Idx → Elt F .i8 := k0_pay8 (iblk m c 0 first) (k0_pay4 (iblk m c 2 first))
def XS (c : Dev nD) : FVec F S512x1 .f32 := k0_pay6 (iblk m c 0 first) (k0_pay4 (iblk m c 2 first))

/-- What the gradient's buffer holds after point `t`: the accumulator, and at the last point the finished gradient. -/
def gtAt (c : Dev nD) (t : Fin cfg0.N) : FVec F S1536x1536 .f32 :=
  if t.val = 34 then (fin (iblk m c 0 t) (accAt m c t.val t.isLt)).gt else (accAt m c t.val t.isLt).gt

/-- The invariant before position `n`: the kept tokens and the accumulators in their scratch buffers. -/
def PhiS (c : Dev nD) : (n : ℕ) → n ≤ cfg0.N → sProp 𝕄
  | 0, _ => Pipeline.ΦA spec0 c
  | n + 1, hn => iprop(iprop(owns (c : Thread nD τ) scM0_0 fullShare (T0 m c).rb ∗ owns (c : Thread nD τ) scM0_1 fullShare (T0 m c).qb ∗ owns (c : Thread nD τ) scM0_2 fullShare (T0 m c).qt ∗ owns (c : Thread nD τ) scM0_3 fullShare (T0 m c).sb ∗ (∃ d, owns (c : Thread nD τ) scM0_4 fullShare d) ∗ owns (c : Thread nD τ) scM0_5 fullShare (accAt m c n hn).dxr ∗ owns (c : Thread nD τ) scM0_6 fullShare (accAt m c n hn).l2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (T0 m c).rb ∗ owns (c : Thread nD τ) scM0_1 fullShare (T0 m c).qb ∗ owns (c : Thread nD τ) scM0_2 fullShare (T0 m c).qt ∗ owns (c : Thread nD τ) scM0_3 fullShare (T0 m c).sb ∗ (∃ d, owns (c : Thread nD τ) scM0_4 fullShare d) ∗ owns (c : Thread nD τ) scM0_5 fullShare (accAt m c n hn).dxr ∗ owns (c : Thread nD τ) scM0_6 fullShare (accAt m c n hn).l2) ∗ (∃ r, prngReg c r)) := rfl

theorem PhiS_pos (c : Dev nD) (n : ℕ) (h : n ≤ cfg0.N) (hz : n ≠ 0) :
    PhiS m c n h = iprop(iprop(owns (c : Thread nD τ) scM0_0 fullShare (T0 m c).rb ∗ owns (c : Thread nD τ) scM0_1 fullShare (T0 m c).qb ∗ owns (c : Thread nD τ) scM0_2 fullShare (T0 m c).qt ∗ owns (c : Thread nD τ) scM0_3 fullShare (T0 m c).sb ∗ (∃ d, owns (c : Thread nD τ) scM0_4 fullShare d) ∗ owns (c : Thread nD τ) scM0_5 fullShare (accAt m c (n - 1) (by omega)).dxr ∗ owns (c : Thread nD τ) scM0_6 fullShare (accAt m c (n - 1) (by omega)).l2) ∗ (∃ r, prngReg c r)) := by
  cases n with
  | zero => exact absurd rfl hz
  | succ n => rfl

/-- The proof data of the pipeline on core `c`: after the body each input's buffer at its block, each output's at its
    named contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => XC m c
    | ⟨4, _⟩ => XS m c
    | ⟨5, _⟩ => wcM (iblk m c 1 t) (T0 m c).rb
    | ⟨6, _⟩ => wsM (iblk m c 1 t) (T0 m c).rb
    | ⟨7, _⟩ => ltM (accAt m c t.val t.isLt)
    | ⟨8, _⟩ => gtAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = XC m c := by dsimp only [dats]
theorem after0_4 (c : Dev nD) (t : Fin cfg0.N) : (dats m 0 c).after 4 t = XS m c := by dsimp only [dats]
theorem after0_5 (c : Dev nD) (t : Fin cfg0.N) : (dats m 0 c).after 5 t = wcM (iblk m c 1 t) (T0 m c).rb := by dsimp only [dats]
theorem after0_6 (c : Dev nD) (t : Fin cfg0.N) : (dats m 0 c).after 6 t = wsM (iblk m c 1 t) (T0 m c).rb := by dsimp only [dats]
theorem after0_7 (c : Dev nD) (t : Fin cfg0.N) : (dats m 0 c).after 7 t = ltM (accAt m c t.val t.isLt) := by dsimp only [dats]
theorem after0_8 (c : Dev nD) (t : Fin cfg0.N) : (dats m 0 c).after 8 t = gtAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Where the outputs are idle, and what the body finds in them -/

theorem idle0_3 (t : Fin cfg0.N) : cfg0.idle 3 (grid0.coords t) = !decide (t.val = 0) := by
  have h := hcond0_0 t
  have hN := lt35 t
  show (!(k0_cond1 (grid0.coords t) == 1#1)) = _
  congr 1
  rw [beq_eq_decide]
  exact decide_eq_decide.mpr (h.trans (by omega))
theorem idle0_4 (t : Fin cfg0.N) : cfg0.idle 4 (grid0.coords t) = !decide (t.val = 0) := idle0_3 t
theorem idle0_7 (t : Fin cfg0.N) : cfg0.idle 7 (grid0.coords t) = !decide (t.val = 34) := by
  have h := hcond0_1 t
  have hN := lt35 t
  show (!(k0_cond2 (grid0.coords t) == 1#1)) = _
  congr 1
  rw [beq_eq_decide]
  exact decide_eq_decide.mpr (h.trans (by omega))
theorem live0_5 (t : Fin cfg0.N) : cfg0.idle 5 (grid0.coords t) = false := rfl
theorem live0_6 (t : Fin cfg0.N) : cfg0.idle 6 (grid0.coords t) = false := rfl
theorem live0_8 (t : Fin cfg0.N) : cfg0.idle 8 (grid0.coords t) = false := rfl

theorem noflush {w : Fin cfg0.W} (t : Fin cfg0.N) (h : (cfg0.win w).flush t = true ↔ t.val % 35 = 34)
    (ht : t.val ≠ 34) : (cfg0.win w).flush t = false := by
  have hN := lt35 t
  rw [Bool.eq_false_iff]; intro hf; have := h.mp hf; omega

/-- After the first point the token codes' buffer holds the token codes. -/
theorem before0_3 (c : Dev nD) (n : ℕ) : ∀ (hn : n < cfg0.N) (h0 : n ≠ 0) (d), (dats m 0 c).before 3 ⟨n, hn⟩ d = XC m c := by
  induction n with
  | zero => intro _ h0; exact absurd rfl h0
  | succ n ih =>
    intro hn _ d
    have hN := lt35 ⟨n + 1, hn⟩
    have hn' : n < cfg0.N := Nat.lt_of_succ_lt hn
    rw [(dats m 0 c).before_of_pos 3 ⟨n + 1, hn⟩ (Nat.succ_ne_zero n) rfl d,
      if_neg (by show ¬(cfg0.win 3).flush ⟨n, hn'⟩ = true; rw [noflush ⟨n, hn'⟩ (flush0_3 _) (by simp only at hN ⊢; omega)]; exact Bool.false_ne_true)]
    show (dats m 0 c).left 3 ⟨n, hn'⟩ d = _
    unfold Dat.left
    rw [show cfg0.idle 3 (cfg0.grid.coords ⟨n, hn'⟩) = !decide (n = 0) from idle0_3 ⟨n, hn'⟩]
    by_cases hz : n = 0
    · rw [decide_eq_true hz]; exact after0_3 m c _
    · rw [decide_eq_false hz]; exact ih hn' hz d

/-- After the first point the token scales' buffer holds the token scales. -/
theorem before0_4 (c : Dev nD) (n : ℕ) : ∀ (hn : n < cfg0.N) (h0 : n ≠ 0) (d), (dats m 0 c).before 4 ⟨n, hn⟩ d = XS m c := by
  induction n with
  | zero => intro _ h0; exact absurd rfl h0
  | succ n ih =>
    intro hn _ d
    have hN := lt35 ⟨n + 1, hn⟩
    have hn' : n < cfg0.N := Nat.lt_of_succ_lt hn
    rw [(dats m 0 c).before_of_pos 4 ⟨n + 1, hn⟩ (Nat.succ_ne_zero n) rfl d,
      if_neg (by show ¬(cfg0.win 4).flush ⟨n, hn'⟩ = true; rw [noflush ⟨n, hn'⟩ (flush0_4 _) (by simp only at hN ⊢; omega)]; exact Bool.false_ne_true)]
    show (dats m 0 c).left 4 ⟨n, hn'⟩ d = _
    unfold Dat.left
    rw [show cfg0.idle 4 (cfg0.grid.coords ⟨n, hn'⟩) = !decide (n = 0) from idle0_4 ⟨n, hn'⟩]
    by_cases hz : n = 0
    · rw [decide_eq_true hz]; exact after0_4 m c _
    · rw [decide_eq_false hz]; exact ih hn' hz d

/-- After the first point the gradient's buffer holds the accumulator the point before left. -/
theorem before0_8 (c : Dev nD) (t : Fin cfg0.N) (h0 : t.val ≠ 0) (d) : (dats m 0 c).before 8 t d
    = (accAt m c (t.val - 1) (Nat.lt_of_le_of_lt (Nat.sub_le _ _) t.isLt)).gt := by
  have hN := lt35 t
  rw [(dats m 0 c).before_of_pos 8 t h0 rfl d,
    if_neg (by rw [noflush ⟨t.val - 1, _⟩ (flush0_8 _) (by simp only; omega)]; exact Bool.false_ne_true)]
  unfold Dat.left
  rw [show cfg0.idle 8 (cfg0.grid.coords ⟨t.val - 1, Nat.lt_of_le_of_lt (Nat.sub_le _ _) t.isLt⟩) = false from rfl]
  refine (after0_8 m c _).trans ?_
  unfold gtAt
  rw [if_neg (by simp only; omega)]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) : (dats m 0 c).leavesExact 0 t
    = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t
    = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t
    = owns (c : Thread nD τ) (ms0_2 t) fullShare ((dats m 0 c).after 2 t) := by
  unfold Dat.leavesExact; rw [liveAt0_2 t]
theorem leaves0_5 (c : Dev nD) (t : Fin cfg0.N) : (dats m 0 c).leavesExact 5 t
    = owns (c : Thread nD τ) (ms0_5 t) fullShare ((dats m 0 c).after 5 t) := by
  unfold Dat.leavesExact; rw [live0_5 t]
theorem leaves0_6 (c : Dev nD) (t : Fin cfg0.N) : (dats m 0 c).leavesExact 6 t
    = owns (c : Thread nD τ) (ms0_6 t) fullShare ((dats m 0 c).after 6 t) := by
  unfold Dat.leavesExact; rw [live0_6 t]
theorem leaves0_8 (c : Dev nD) (t : Fin cfg0.N) : (dats m 0 c).leavesExact 8 t
    = owns (c : Thread nD τ) (ms0_8 t) fullShare ((dats m 0 c).after 8 t) := by
  unfold Dat.leavesExact; rw [live0_8 t]
theorem leaves0_3_live (c : Dev nD) (t : Fin cfg0.N) (ht : t.val = 0) : (dats m 0 c).leavesExact 3 t
    = owns (c : Thread nD τ) (ms0_3 t) fullShare ((dats m 0 c).after 3 t) := by
  unfold Dat.leavesExact
  rw [show cfg0.idle 3 (cfg0.grid.coords t) = false from (idle0_3 t).trans (by rw [decide_eq_true ht]; rfl)]
theorem leaves0_3_idle (c : Dev nD) (t : Fin cfg0.N) (ht : t.val ≠ 0) (h34 : t.val ≠ 34) : (dats m 0 c).leavesExact 3 t
    = iprop(∃ d, owns (c : Thread nD τ) (ms0_3 t) fullShare ((dats m 0 c).before 3 t d)) :=
  (dats m 0 c).leavesExact_idle 3 t ((idle0_3 t).trans (by rw [decide_eq_false ht]; rfl)) (noflush t (flush0_3 t) h34)
theorem leaves0_4_live (c : Dev nD) (t : Fin cfg0.N) (ht : t.val = 0) : (dats m 0 c).leavesExact 4 t
    = owns (c : Thread nD τ) (ms0_4 t) fullShare ((dats m 0 c).after 4 t) := by
  unfold Dat.leavesExact
  rw [show cfg0.idle 4 (cfg0.grid.coords t) = false from (idle0_4 t).trans (by rw [decide_eq_true ht]; rfl)]
theorem leaves0_4_idle (c : Dev nD) (t : Fin cfg0.N) (ht : t.val ≠ 0) (h34 : t.val ≠ 34) : (dats m 0 c).leavesExact 4 t
    = iprop(∃ d, owns (c : Thread nD τ) (ms0_4 t) fullShare ((dats m 0 c).before 4 t d)) :=
  (dats m 0 c).leavesExact_idle 4 t ((idle0_4 t).trans (by rw [decide_eq_false ht]; rfl)) (noflush t (flush0_4 t) h34)
theorem leaves0_7_live (c : Dev nD) (t : Fin cfg0.N) (ht : t.val = 34) : (dats m 0 c).leavesExact 7 t
    = owns (c : Thread nD τ) (ms0_7 t) fullShare ((dats m 0 c).after 7 t) := by
  unfold Dat.leavesExact
  rw [show cfg0.idle 7 (cfg0.grid.coords t) = false from (idle0_7 t).trans (by rw [decide_eq_true ht]; rfl)]
theorem leaves0_7_idle (c : Dev nD) (t : Fin cfg0.N) (ht : t.val ≠ 34) (h34 : t.val ≠ 34) : (dats m 0 c).leavesExact 7 t
    = iprop(∃ d, owns (c : Thread nD τ) (ms0_7 t) fullShare ((dats m 0 c).before 7 t d)) :=
  (dats m 0 c).leavesExact_idle 7 t ((idle0_7 t).trans (by rw [decide_eq_false ht]; rfl)) (noflush t (flush0_7 t) h34)
theorem leaves0_3_last (c : Dev nD) (t : Fin cfg0.N) (ht : t.val = 34) : (dats m 0 c).leavesExact 3 t
    = owns (c : Thread nD τ) (ms0_3 t) fullShare ((dats m 0 c).after 3 t) := by
  unfold Dat.leavesExact
  rw [show cfg0.idle 3 (cfg0.grid.coords t) = true from (idle0_3 t).trans (by rw [decide_eq_false (by omega)]; rfl),
    (flush0_3 t).mpr (by omega)]
theorem leaves0_4_last (c : Dev nD) (t : Fin cfg0.N) (ht : t.val = 34) : (dats m 0 c).leavesExact 4 t
    = owns (c : Thread nD τ) (ms0_4 t) fullShare ((dats m 0 c).after 4 t) := by
  unfold Dat.leavesExact
  rw [show cfg0.idle 4 (cfg0.grid.coords t) = true from (idle0_4 t).trans (by rw [decide_eq_false (by omega)]; rfl),
    (flush0_4 t).mpr (by omega)]

set_option maxHeartbeats 3200000 in
/-- The body at the first point. -/
theorem sound_A (c : Dev nD) (t : Fin cfg0.N) (ht : t = first) :
    bodyPre m c t ⊢ wp frame (wpE (defs₀ (F := F)) Variants.none c none) Set.univ (bodyAt0 t) (fun _ => bodyPost m c t) := by
  have hN := lt35 t
  have h0 : t.val = 0 := by rw [ht]; rfl
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves0_0, leaves0_1, leaves0_2, leaves0_5, leaves0_6, leaves0_8, after0_0, after0_1, after0_2, after0_5, after0_6, after0_8]
  rw [leaves0_3_live m c t h0, leaves0_4_live m c t h0, leaves0_7_idle m c t (by omega) (by omega), after0_3, after0_4]
  rw [PhiS_zero m c _ _ h0, PhiA0_eq]
  rw [show gtAt m c t = (accAt m c t.val t.isLt).gt from by unfold gtAt; rw [if_neg (by omega)]]
  rw [show accAt m c t.val t.isLt = step (iblk m c 0 t) (iblk m c 1 t) (T0 m c) acc0 from by subst ht; rfl]
  rw [show T0 m c = toks (iblk m c 0 t) (iblk m c 2 t) from by rw [ht]; rfl,
    show XC m c = k0_pay8 (iblk m c 0 t) (k0_pay4 (iblk m c 2 t)) from by rw [ht]; rfl,
    show XS m c = k0_pay6 (iblk m c 0 t) (k0_pay4 (iblk m c 2 t)) from by rw [ht]; rfl]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr (by omega)) (fun h => by have := (hcond0_1 t).mp h; omega) (iblk m c 0 t) (iblk m c 1 t) (iblk m c 2 t) ((dats m 0 c).before 7 t d7) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexists _; iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  iexact H8

set_option maxHeartbeats 3200000 in
/-- The body at a middle point. -/
theorem sound_B (c : Dev nD) (t : Fin cfg0.N) (h0 : t.val ≠ 0) (h34 : t.val ≠ 34) :
    bodyPre m c t ⊢ wp frame (wpE (defs₀ (F := F)) Variants.none c none) Set.univ (bodyAt0 t) (fun _ => bodyPost m c t) := by
  have hN := lt35 t
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves0_0, leaves0_1, leaves0_2, leaves0_5, leaves0_6, leaves0_8, after0_0, after0_1, after0_2, after0_5, after0_6, after0_8]
  rw [leaves0_3_idle m c t h0 h34, leaves0_4_idle m c t h0 h34, leaves0_7_idle m c t h34 h34]
  simp only [before0_8 m c t h0, before0_3 m c t.val t.isLt h0, before0_4 m c t.val t.isLt h0]
  rw [PhiS_pos m c _ _ h0]
  rw [show gtAt m c t = (accAt m c t.val t.isLt).gt from by unfold gtAt; rw [if_neg h34]]
  rw [accAt_pos m c t h0]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => by have := (hcond0_0 t).mp h; omega) (fun h => by have := (hcond0_1 t).mp h; omega) (iblk m c 0 t) (iblk m c 1 t) (iblk m c 2 t) (XC m c) (XS m c) ((dats m 0 c).before 7 t d7) (accAt m c (t.val - 1) (Nat.lt_of_le_of_lt (Nat.sub_le _ _) t.isLt)).gt (T0 m c).rb (T0 m c).qb (T0 m c).qt (T0 m c).sb (accAt m c (t.val - 1) (Nat.lt_of_le_of_lt (Nat.sub_le _ _) t.isLt)).dxr (accAt m c (t.val - 1) (Nat.lt_of_le_of_lt (Nat.sub_le _ _) t.isLt)).l2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexists _; iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexists d3; iexact H3
  isplitl [H4]; · iexists d4; iexact H4
  isplitl [H5]; · iexact H5
  isplitl [H6]; · iexact H6
  isplitl [H7]; · iexists d7; iexact H7
  iexact H8

set_option maxHeartbeats 3200000 in
/-- The body at the last point. -/
theorem sound_C (c : Dev nD) (t : Fin cfg0.N) (h34 : t.val = 34) :
    bodyPre m c t ⊢ wp frame (wpE (defs₀ (F := F)) Variants.none c none) Set.univ (bodyAt0 t) (fun _ => bodyPost m c t) := by
  have hN := lt35 t
  have h0 : t.val ≠ 0 := by omega
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves0_0, leaves0_1, leaves0_2, leaves0_5, leaves0_6, leaves0_8, after0_0, after0_1, after0_2, after0_5, after0_6, after0_8]
  rw [leaves0_3_last m c t h34, leaves0_4_last m c t h34, leaves0_7_live m c t h34, after0_3, after0_4, after0_7]
  simp only [before0_8 m c t h0, before0_3 m c t.val t.isLt h0, before0_4 m c t.val t.isLt h0]
  rw [PhiS_pos m c _ _ h0]
  rw [show gtAt m c t = (fin (iblk m c 0 t) (accAt m c t.val t.isLt)).gt from by unfold gtAt; rw [if_pos h34]]
  rw [accAt_pos m c t h0]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => by have := (hcond0_0 t).mp h; omega) ((hcond0_1 t).mpr (by omega)) (iblk m c 0 t) (iblk m c 1 t) (iblk m c 2 t) (XC m c) (XS m c) (accAt m c (t.val - 1) (Nat.lt_of_le_of_lt (Nat.sub_le _ _) t.isLt)).gt (T0 m c).rb (T0 m c).qb (T0 m c).qt (T0 m c).sb (accAt m c (t.val - 1) (Nat.lt_of_le_of_lt (Nat.sub_le _ _) t.isLt)).dxr (accAt m c (t.val - 1) (Nat.lt_of_le_of_lt (Nat.sub_le _ _) t.isLt)).l2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexists _; iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t (Fin.ext h0)
  by_cases h34 : t.val = 34
  · exact sound_C m c t h34
  exact sound_B m c t h0 h34

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexists _; iexact HS2
    isplitl [HS3]
    · iexists _; iexact HS3
    isplitl [HS4]
    · iexact HS4
    isplitl [HS5]
    · iexists _; iexact HS5
    iexists _; iexact HS6
  iexact Hg

theorem hout (c : Dev nD) : (dats m 0 c).Φ (Fin.last cfg0.N) ⊢ Pipeline.ΦA spec0 c :=
  Phi_out m c _ (by rw [Fin.val_last]; have : cfg0.N = 35 := N_0; omega)

-- the run's implicit arguments are found by unifying its conclusion with this one
set_option backward.isDefEq.respectTransparency.types false in
/-- The run: every output array at the contents the proof data names, every other buffer as the host lines after the region
    leave it, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hmain := hmain m Variants.none) (hA := A_eq m) (hin := hin m) (hout := hout m)
    (Q' := _) (hQ' := fun _ h => h)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Grad

end
-- ==== Proof.Grad.Host.lean ====
/- The host lines after the gradient call: what each result of @main holds at the end, from what the call leaves in its arrays. -/
module

public import proofs.«01_k».proof.Proof.Grad.Frame
public import Idealize.ShloMosaic.Lib.StableHlo.Run
public import Idealize.ShloMosaic.Lib.Pipeline.FrameSuffix

@[expose] public section

set_option maxRecDepth 16384

noncomputable section

namespace Cert.KernelIdeal.Grad

open Cert.KernelIdeal Cert.KernelIdeal.Gen Idealize.ShloMosaic Idealize.ShloMosaic.TcCoe Idealize.SL.Sem Idealize.ShloMosaic.StableHlo

variable {F : FTy → Type} [FloatOps F] [Named F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (dats m 0 c).arrAt w cfg0.N

/-- What the kernel region leaves in its result array `main_v0_0` (window 3's): not opened here. -/
def reg_main_v0_0 (c : Dev nD) : Buf (Elt F) ((c.tc : Thread nD τ).loc main_v0_0) := (dats m 0 c).arrAt 3 cfg0.N
/-- What the kernel region leaves in its result array `main_v0_1` (window 4's): not opened here. -/
def reg_main_v0_1 (c : Dev nD) : Buf (Elt F) ((c.tc : Thread nD τ).loc main_v0_1) := (dats m 0 c).arrAt 4 cfg0.N
/-- What the kernel region leaves in its result array `main_v0_2` (window 5's): not opened here. -/
def reg_main_v0_2 (c : Dev nD) : Buf (Elt F) ((c.tc : Thread nD τ).loc main_v0_2) := (dats m 0 c).arrAt 5 cfg0.N
/-- What the kernel region leaves in its result array `main_v0_3` (window 6's): not opened here. -/
def reg_main_v0_3 (c : Dev nD) : Buf (Elt F) ((c.tc : Thread nD τ).loc main_v0_3) := (dats m 0 c).arrAt 6 cfg0.N
/-- What the kernel region leaves in its result array `main_v0_4` (window 7's): not opened here. -/
def reg_main_v0_4 (c : Dev nD) : Buf (Elt F) ((c.tc : Thread nD τ).loc main_v0_4) := (dats m 0 c).arrAt 7 cfg0.N
/-- What the kernel region leaves in its result array `main_v0_5` (window 8's): not opened here. -/
def reg_main_v0_5 (c : Dev nD) : Buf (Elt F) ((c.tc : Thread nD τ).loc main_v0_5) := (dats m 0 c).arrAt 8 cfg0.N

/-- The exit contents at the region's result array `main_v0_4`. -/
theorem exit_main_v0_4 (c : Dev nD) : exitV m c (Proc.devRef .tc main_v0_4) = reg_main_v0_4 m c :=
  Pipeline.withArrays_arr spec0 Gen.launch0.win.arr_inj c (Gen.V0 m c) _ 7
/-- The exit contents at the region's result array `main_v0_0`. -/
theorem exit_main_v0_0 (c : Dev nD) : exitV m c (Proc.devRef .tc main_v0_0) = reg_main_v0_0 m c :=
  Pipeline.withArrays_arr spec0 Gen.launch0.win.arr_inj c (Gen.V0 m c) _ 3
/-- The exit contents at the region's result array `main_v0_1`. -/
theorem exit_main_v0_1 (c : Dev nD) : exitV m c (Proc.devRef .tc main_v0_1) = reg_main_v0_1 m c :=
  Pipeline.withArrays_arr spec0 Gen.launch0.win.arr_inj c (Gen.V0 m c) _ 4
/-- The exit contents at the region's result array `main_v0_5`. -/
theorem exit_main_v0_5 (c : Dev nD) : exitV m c (Proc.devRef .tc main_v0_5) = reg_main_v0_5 m c :=
  Pipeline.withArrays_arr spec0 Gen.launch0.win.arr_inj c (Gen.V0 m c) _ 8
/-- The exit contents at the region's result array `main_v0_2`. -/
theorem exit_main_v0_2 (c : Dev nD) : exitV m c (Proc.devRef .tc main_v0_2) = reg_main_v0_2 m c :=
  Pipeline.withArrays_arr spec0 Gen.launch0.win.arr_inj c (Gen.V0 m c) _ 5
/-- The exit contents at the region's result array `main_v0_3`. -/
theorem exit_main_v0_3 (c : Dev nD) : exitV m c (Proc.devRef .tc main_v0_3) = reg_main_v0_3 m c :=
  Pipeline.withArrays_arr spec0 Gen.launch0.win.arr_inj c (Gen.V0 m c) _ 6

/-- The later operations from any contents `V0`, read at result `main_v3`. -/
theorem tail_main_v3 (V0 : Valuation τ sig (Elt F)) :
    after (List.flatten [Gen.hostOps1]) V0 (Proc.devRef .tc main_v3) = Host.divf (Host.reduceAdd (shapeCast _ (V0 (Proc.devRef .tc main_v0_4)) shapeCasts_S512x1_S2x256) (constant S_ .f32 0x00000000#32) reducesTo_S2x256_S_d0_1 h_S_) (constant S_ .f32 0x44000000#32) := by
  simp only [Gen.hostOps1, List.flatten_cons, List.flatten_nil, List.append_nil, List.cons_append, List.nil_append]
  after_results <;> rfl
/-- Result `main_v3` after the later operations from the region's exit contents. -/
theorem fin_main_v3 (c : Dev nD) :
    Pipeline.afterTail₀ cfgs (dats m) 0 (Gen.V0 m) [Gen.hostOps1] c main_v3 = Host.divf (Host.reduceAdd (shapeCast _ (reg_main_v0_4 m c) shapeCasts_S512x1_S2x256) (constant S_ .f32 0x00000000#32) reducesTo_S2x256_S_d0_1 h_S_) (constant S_ .f32 0x44000000#32) :=
  (tail_main_v3 (exitV m c)).trans (by rw [exit_main_v0_4])

/-- The later operations from any contents `V0`, read at result `main_v1`. -/
theorem tail_main_v1 (V0 : Valuation τ sig (Elt F)) :
    after (List.flatten [Gen.hostOps1]) V0 (Proc.devRef .tc main_v1) = shapeCast _ (V0 (Proc.devRef .tc main_v0_4)) shapeCasts_S512x1_S2x256 := by
  simp only [Gen.hostOps1, List.flatten_cons, List.flatten_nil, List.append_nil, List.cons_append, List.nil_append]
  after_results <;> rfl
/-- Result `main_v1` after the later operations from the region's exit contents. -/
theorem fin_main_v1 (c : Dev nD) :
    Pipeline.afterTail₀ cfgs (dats m) 0 (Gen.V0 m) [Gen.hostOps1] c main_v1 = shapeCast _ (reg_main_v0_4 m c) shapeCasts_S512x1_S2x256 :=
  (tail_main_v1 (exitV m c)).trans (by rw [exit_main_v0_4])

/-- The later operations from any contents `V0`, read at result `main_v4`. -/
theorem tail_main_v4 (V0 : Valuation τ sig (Elt F)) :
    after (List.flatten [Gen.hostOps1]) V0 (Proc.devRef .tc main_v4) = shapeCast _ (V0 (Proc.devRef .tc main_v0_0)) shapeCasts_S512x1536_S2x256x1536 := by
  simp only [Gen.hostOps1, List.flatten_cons, List.flatten_nil, List.append_nil, List.cons_append, List.nil_append]
  after_results <;> rfl
/-- Result `main_v4` after the later operations from the region's exit contents. -/
theorem fin_main_v4 (c : Dev nD) :
    Pipeline.afterTail₀ cfgs (dats m) 0 (Gen.V0 m) [Gen.hostOps1] c main_v4 = shapeCast _ (reg_main_v0_0 m c) shapeCasts_S512x1536_S2x256x1536 :=
  (tail_main_v4 (exitV m c)).trans (by rw [exit_main_v0_0])

/-- The later operations from any contents `V0`, read at result `main_v5`. -/
theorem tail_main_v5 (V0 : Valuation τ sig (Elt F)) :
    after (List.flatten [Gen.hostOps1]) V0 (Proc.devRef .tc main_v5) = shapeCast _ (V0 (Proc.devRef .tc main_v0_1)) shapeCasts_S512x1_S2x256 := by
  simp only [Gen.hostOps1, List.flatten_cons, List.flatten_nil, List.append_nil, List.cons_append, List.nil_append]
  after_results <;> rfl
/-- Result `main_v5` after the later operations from the region's exit contents. -/
theorem fin_main_v5 (c : Dev nD) :
    Pipeline.afterTail₀ cfgs (dats m) 0 (Gen.V0 m) [Gen.hostOps1] c main_v5 = shapeCast _ (reg_main_v0_1 m c) shapeCasts_S512x1_S2x256 :=
  (tail_main_v5 (exitV m c)).trans (by rw [exit_main_v0_1])

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v0_5) = reg_main_v0_5 m c
      ∧ r.2.mem ((c.tc : Thread nD τ).loc main_v3) = Host.divf (Host.reduceAdd (shapeCast _ (reg_main_v0_4 m c) shapeCasts_S512x1_S2x256) (constant S_ .f32 0x00000000#32) reducesTo_S2x256_S_d0_1 h_S_) (constant S_ .f32 0x44000000#32)
      ∧ r.2.mem ((c.tc : Thread nD τ).loc main_v1) = shapeCast _ (reg_main_v0_4 m c) shapeCasts_S512x1_S2x256
      ∧ r.2.mem ((c.tc : Thread nD τ).loc main_v4) = shapeCast _ (reg_main_v0_0 m c) shapeCasts_S512x1536_S2x256x1536
      ∧ r.2.mem ((c.tc : Thread nD τ).loc main_v5) = shapeCast _ (reg_main_v0_1 m c) shapeCasts_S512x1_S2x256
      ∧ r.2.mem ((c.tc : Thread nD τ).loc main_v0_2) = reg_main_v0_2 m c
      ∧ r.2.mem ((c.tc : Thread nD τ).loc main_v0_3) = reg_main_v0_3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 8).trans (show _ = reg_main_v0_5 m c from rfl),
      ((h c).2 main_v3 (Pipeline.mem_restRefs_of main_v3 (by decide) (by decide))).trans (fin_main_v3 m c),
      ((h c).2 main_v1 (Pipeline.mem_restRefs_of main_v1 (by decide) (by decide))).trans (fin_main_v1 m c),
      ((h c).2 main_v4 (Pipeline.mem_restRefs_of main_v4 (by decide) (by decide))).trans (fin_main_v4 m c),
      ((h c).2 main_v5 (Pipeline.mem_restRefs_of main_v5 (by decide) (by decide))).trans (fin_main_v5 m c),
      ((h c).1 5).trans (show _ = reg_main_v0_2 m c from rfl),
      ((h c).1 6).trans (show _ = reg_main_v0_3 m c from rfl),
      ((h c).1 0).trans (((dats m 0 c).arrAt_in 0 rfl _).trans ((A_eq m c 0).trans (Gen.V_main_arg0 m c))),
      ((h c).1 1).trans (((dats m 0 c).arrAt_in 1 rfl _).trans ((A_eq m c 1).trans (Gen.V_main_arg1 m c))),
      ((h c).1 2).trans (((dats m 0 c).arrAt_in 2 rfl _).trans ((A_eq m c 2).trans (Gen.V_main_arg2 m c)))⟩) (run_main m ρ)

end Cert.KernelIdeal.Grad

end
-- ==== Proof.Grad.Spec.lean ====
/- The gradient call's mathematics over the extended reals, one row at a time: the int8 quantiser of a token's row, the int4
   quantiser of a weight's row in groups of 64, the error, the loss and the gradient. Both programs' results are these
   functions of the arguments. -/
module

public import Idealize.ShloMosaic.PureOps.Ideal
public import Idealize.ShloMosaic.Lib.Pointwise
public import Idealize.ShloMosaic.Lib.Pipeline.ValueKit

@[expose] public section

set_option maxRecDepth 16384

noncomputable section

namespace Cert.Spec

open Idealize.ShloMosaic

/-- An array of two axes by its coordinates. -/
def mat {a b : ℕ} {φ : FTy} (v : FVec Ideal ⟨2, ![a, b]⟩ φ) (i : Fin a) (j : Fin b) : EReal := v (ix2 i j)

/-- The largest magnitude. -/
def big {n : ℕ} (f : Fin n → Ideal FTy.f32) : Ideal FTy.f32 :=
  Finset.univ.fold max (Ideal.ofBits FTy.f32 0xFF800000#32) fun k => FloatOps.absf (F := Ideal) (φ := .f32) (f k)

/-- The scale of a largest magnitude: 1 for zero, else its `c`-th part. -/
def scale (c : BitVec 32) (m : Ideal FTy.f32) : Ideal FTy.f32 := if m = 0 then 1 else Ideal.div m (Ideal.ofBits FTy.f32 c)

/-- The quotient rounded to an integer and clipped to `[c', c]`. -/
def quant (c c' : BitVec 32) (v s : Ideal FTy.f32) : Ideal FTy.f32 :=
  min (Ideal.ofBits FTy.f32 c) (max (Ideal.ofBits FTy.f32 c') (Ideal.liftRound Ideal.roundHalfEven (Ideal.div v s)))

/-! ## A token's row -/

def xs (y : Fin 1536 → EReal) : EReal := scale 0x42FE0000#32 (big y)
def xq (y : Fin 1536 → EReal) (d : Fin 1536) : EReal := quant 0x42FE0000#32 0xC2FE0000#32 (y d) (xs y)

/-! ## A weight's row -/

/-- The channel `k` of group `g`. -/
def chan (g : Fin 24) (k : Fin 64) : Fin 1536 := ⟨g.val * 64 + k.val, by omega⟩
/-- The group of a channel, -/
def grp (j : Fin 1536) : Fin 24 := ⟨j.val / 64, by omega⟩
/-- and its place there. -/
def plc (j : Fin 1536) : Fin 64 := ⟨j.val % 64, by omega⟩
theorem chan_grp (j : Fin 1536) : chan (grp j) (plc j) = j := Fin.ext (by simp only [chan, grp, plc]; omega)

def ws (y : Fin 1536 → EReal) (g : Fin 24) : EReal := scale 0x40E00000#32 (big fun k => y (chan g k))
def wq (y : Fin 1536 → EReal) (j : Fin 1536) : EReal := quant 0x40E00000#32 0xC0E00000#32 (y j) (ws y (grp j))
/-- The quantised weight. -/
def wb (y : Fin 1536 → EReal) (j : Fin 1536) : EReal := wq y j * ws y (grp j)

/-! ## The rounded, clipped quotient is an integer, which its code gives back -/

theorem c7 : Ideal.ofBits FTy.f32 0x40E00000#32 = ((7 : ℝ) : EReal) := by
  simp [Ideal.ofBits, Ideal.ieee, -EReal.coe_mul]; norm_num
theorem c7n : Ideal.ofBits FTy.f32 0xC0E00000#32 = ((-7 : ℝ) : EReal) := by
  simp [Ideal.ofBits, Ideal.ieee, -EReal.coe_mul]; norm_num
theorem c127 : Ideal.ofBits FTy.f32 0x42FE0000#32 = ((127 : ℝ) : EReal) := by
  simp [Ideal.ofBits, Ideal.ieee, -EReal.coe_mul]; norm_num
theorem c127n : Ideal.ofBits FTy.f32 0xC2FE0000#32 = ((-127 : ℝ) : EReal) := by
  simp [Ideal.ofBits, Ideal.ieee, -EReal.coe_mul]; norm_num
theorem c8960 : Ideal.ofBits FTy.f32 0x460C0000#32 = ((8960 : ℝ) : EReal) := by
  simp [Ideal.ofBits, Ideal.ieee, -EReal.coe_mul]; norm_num
theorem cbot : Ideal.ofBits FTy.f32 0xFF800000#32 = (⊥ : EReal) := by
  simp [Ideal.ofBits, Ideal.ieee]

theorem clip_int (n : ℤ) (hn : 0 ≤ n) (z : EReal) :
    ∃ k : ℤ, -n ≤ k ∧ k ≤ n ∧ min (((n : ℝ)) : EReal) (max (((-n : ℝ)) : EReal) (Ideal.liftRound Ideal.roundHalfEven z)) = ((k : ℝ) : EReal) := by
  have h0 : (((-n : ℝ)) : EReal) ≤ ((n : ℝ) : EReal) := EReal.coe_le_coe_iff.mpr (by have : (0 : ℝ) ≤ n := by exact_mod_cast hn
                                                                                     linarith)
  induction z with
  | bot => exact ⟨-n, by omega, by omega, by
      show min _ (max _ ⊥) = _
      rw [max_eq_left bot_le, min_eq_right h0]; push_cast; rfl⟩
  | top => exact ⟨n, by omega, by omega, by
      show min _ (max _ ⊤) = _
      rw [max_eq_right le_top, min_eq_left le_top]⟩
  | coe r =>
    refine ⟨min n (max (-n) (Ideal.roundHalfEven r)), by omega, by omega, ?_⟩
    show min _ (max _ (((Ideal.roundHalfEven r : ℤ) : ℝ) : EReal)) = _
    rw [← EReal.coe_strictMono.monotone.map_max, ← EReal.coe_strictMono.monotone.map_min]
    push_cast; rfl

theorem code_back (k : ℤ) (h1 : -127 ≤ k) (h2 : k ≤ 127) :
    FloatOps.sitofp (F := Ideal) FTy.bf16 (FloatOps.fptosi (F := Ideal) (φ := .f32) 8 ((k : ℝ) : EReal)) = ((k : ℝ) : EReal) := by
  show (((Ideal.fptosi 8 ((k : ℝ) : EReal)).toInt : ℝ) : EReal) = _
  have h : Ideal.fptosi 8 ((k : ℝ) : EReal) = BitVec.ofInt 8 k := by
    show BitVec.ofInt 8 (max _ (min _ (if (0 : ℝ) ≤ (k : ℝ) then ⌊(k : ℝ)⌋ else ⌈(k : ℝ)⌉))) = _
    rw [Int.floor_intCast, Int.ceil_intCast, ite_self]
    congr 1
    simp only [Nat.reduceSub, Nat.reducePow]
    omega
  rw [h, BitVec.toInt_ofInt]
  congr 2
  simp only [Int.bmod_def]
  omega

/-- The int8 code of a token gives the quotient back, -/
theorem xq_back (v s : EReal) : FloatOps.sitofp (F := Ideal) FTy.bf16
    (FloatOps.fptosi (F := Ideal) (φ := .f32) 8 (quant 0x42FE0000#32 0xC2FE0000#32 v s)) = quant 0x42FE0000#32 0xC2FE0000#32 v s := by
  obtain ⟨k, h1, h2, h⟩ := clip_int 127 (by norm_num) (Ideal.div v s)
  have e : quant 0x42FE0000#32 0xC2FE0000#32 v s = ((k : ℝ) : EReal) := by
    unfold quant; rw [c127, c127n]; rw [← h]; norm_num
  rw [e]; exact code_back k h1 h2
/-- and so does the code of a weight. -/
theorem wq_back (v s : EReal) : FloatOps.sitofp (F := Ideal) FTy.bf16
    (FloatOps.fptosi (F := Ideal) (φ := .f32) 8 (quant 0x40E00000#32 0xC0E00000#32 v s)) = quant 0x40E00000#32 0xC0E00000#32 v s := by
  obtain ⟨k, h1, h2, h⟩ := clip_int 7 (by norm_num) (Ideal.div v s)
  have e : quant 0x40E00000#32 0xC0E00000#32 v s = ((k : ℝ) : EReal) := by
    unfold quant; rw [c7, c7n]; rw [← h]; norm_num
  rw [e]; exact code_back k (by omega) (by omega)

/-! ## The largest magnitude of half the lanes -/

theorem absf_nonneg (a : EReal) : 0 ≤ FloatOps.absf (F := Ideal) (φ := .f32) a := by
  show (0 : EReal) ≤ max a (-a)
  rcases le_total 0 a with h | h
  · exact le_max_of_le_left h
  · exact le_max_of_le_right (EReal.neg_nonneg.mpr h)

/-- The largest of 128 lanes, one half of them read as zero, is the largest magnitude of the other half. -/
theorem half (F : Fin 128 → EReal) (f : Fin 64 → EReal) (e : Fin 64 → Fin 128)
    (hin : ∀ k, F (e k) = FloatOps.absf (F := Ideal) (φ := .f32) (f k))
    (hout : ∀ l, F l = 0 ∨ ∃ k, l = e k) :
    Finset.univ.fold max (Ideal.ofBits FTy.f32 0xFF800000#32) F = big f := by
  unfold big
  apply le_antisymm
  · refine Finset.fold_max_le _ |>.mpr ⟨(Finset.le_fold_max _).mpr (.inl le_rfl), fun l _ => ?_⟩
    rcases hout l with h | ⟨k, rfl⟩
    · rw [h]
      exact (Finset.le_fold_max _).mpr (.inr ⟨0, Finset.mem_univ _, absf_nonneg _⟩)
    · rw [hin k]
      exact (Finset.le_fold_max _).mpr (.inr ⟨k, Finset.mem_univ _, le_rfl⟩)
  · refine Finset.fold_max_le _ |>.mpr ⟨(Finset.le_fold_max _).mpr (.inl le_rfl), fun k _ => ?_⟩
    rw [← hin k]
    exact (Finset.le_fold_max _).mpr (.inr ⟨e k, Finset.mem_univ _, le_rfl⟩)

/-! ## The sums -/

variable (x : Fin 512 → Fin 1536 → EReal) (w : Fin 8960 → Fin 1536 → EReal) (r : Fin 1536 → Fin 1536 → EReal)

/-- A row against the rotation. -/
def rot (y : Fin 1536 → EReal) (k : Fin 1536) : EReal := ∑ j : Fin 1536, y j * r j k

/-- The error of token `n` at output `o`: the quantised product less the exact one, -/
def er (n : Fin 512) (y : Fin 1536 → EReal) : EReal :=
  (∑ d : Fin 1536, xq (rot r (x n)) d * wb (rot r y) d) * xs (rot r (x n)) - ∑ d : Fin 1536, x n d * y d
/-- its derivative, -/
def dy (n : Fin 512) (y : Fin 1536 → EReal) : EReal := er x r n y * Ideal.ofBits FTy.f32 0x34EA0EA1#32
/-- and the derivatives with respect to the two rotated operands. -/
def dxr (n : Fin 512) (d : Fin 1536) : EReal := ∑ o : Fin 8960, dy x r n (w o) * wb (rot r (w o)) d
def dwr (y : Fin 1536 → EReal) (i : Fin 1536) : EReal :=
  ∑ n : Fin 512, xq (rot r (x n)) i * (dy x r n y * xs (rot r (x n)))

/-- The sum of a token's squared errors. -/
def sq (n : Fin 512) : EReal := ∑ o : Fin 8960, er x r n (w o) * er x r n (w o)
def lt (n : Fin 512) : EReal := sq x w r n * ((1 / 8960 : ℝ) : EReal)
def gt (i j : Fin 1536) : EReal := (∑ o : Fin 8960, dwr x r (w o) i * w o j) + ∑ n : Fin 512, dxr x w r n i * x n j

end Cert.Spec

end
-- ==== Proof.Grad.Piece.lean ====
/- One piece of 128 lanes (two groups of 64 channels) over the extended reals: if the piece is channels `128 p …` of the rows `Y`,
   its largest magnitudes, codes and quantised values are those of the rows. -/
module

public import proofs.«01_k».proof.Proof.Grad.Model
public import proofs.«01_k».proof.Proof.Grad.Spec

@[expose] public section

set_option maxRecDepth 16384

noncomputable section

namespace Cert.KernelIdeal.Grad

open Idealize.ShloMosaic Idealize.ShloMosaic.TcCoe Idealize.SL.Sem
open Cert.KernelIdeal Cert.KernelIdeal.Gen

theorem low_bit : ∀ l : Fin 128, IntOp.cmpi .slt (BitVec.ofNat 32 l.val) 64#32 = if l.val < 64 then 1#1 else 0#1 := by decide +kernel
theorem at_bit : ∀ (g : Fin 24) (l : Fin 128), IntOp.cmpi .eq (BitVec.ofNat 32 l.val) (BitVec.ofNat 32 g.val) = if l.val = g.val then 1#1 else 0#1 := by
  decide +kernel

theorem select_ite {α : Type} (p : Prop) [Decidable p] (a b : α) : Scalar.select (if p then 1#1 else 0#1) a b = if p then a else b := by
  split <;> rfl

variable (v : FVec Ideal S256x128 .f32)

theorem low_at (i : Fin 256) (l : Fin 128) : low (ix2 i l) = if l.val < 64 then 1#1 else 0#1 := by
  rw [← low_bit]
  pointwise [low, lane]

theorem at_at (g : Fin 24) (i : Fin 256) (l : Fin 128) : at_ (BitVec.ofNat 32 g.val) (ix2 i l) = if l.val = g.val then 1#1 else 0#1 := by
  rw [← at_bit]
  pointwise [at_, lane]

theorem cols_at (a : FVec Ideal S256x1 .f32) (i : Fin 256) (l : Fin 128) : cols a (ix2 i l) = a (ix2 i 0) := by
  pointwise [cols]

theorem m0_fold (i : Fin 256) : m0 v (ix2 i 0) = Finset.univ.fold max (Ideal.ofBits FTy.f32 0xFF800000#32)
    fun l : Fin 128 => Scalar.select (low (ix2 i l)) (FloatOps.absf (F := Ideal) (φ := .f32) (v (ix2 i l))) (0 : EReal) := by
  pointwise [m0, splat]

theorem m1_fold (i : Fin 256) : m1 v (ix2 i 0) = Finset.univ.fold max (Ideal.ofBits FTy.f32 0xFF800000#32)
    fun l : Fin 128 => Scalar.select (low (ix2 i l)) (0 : EReal) (FloatOps.absf (F := Ideal) (φ := .f32) (v (ix2 i l))) := by
  pointwise [m1, splat]

theorem m0_at (i : Fin 256) : m0 v (ix2 i 0) = Spec.big fun k : Fin 64 => v (ix2 i ⟨k.val, by omega⟩) := by
  rw [m0_fold]
  refine Spec.half _ _ (fun k : Fin 64 => ⟨k.val, by omega⟩) (fun k => ?_) fun l => ?_
  · simp only [low_at, select_ite, k.isLt, if_true]
    rfl
  · simp only [low_at, select_ite]
    by_cases h : l.val < 64
    · exact .inr ⟨⟨l.val, h⟩, rfl⟩
    · exact .inl (if_neg h)

theorem m1_at (i : Fin 256) : m1 v (ix2 i 0) = Spec.big fun k : Fin 64 => v (ix2 i ⟨64 + k.val, by omega⟩) := by
  rw [m1_fold]
  refine Spec.half _ _ (fun k : Fin 64 => ⟨64 + k.val, by omega⟩) (fun k => ?_) fun l => ?_
  · simp only [low_at, select_ite]
    rw [if_neg (by omega)]
  · simp only [low_at, select_ite]
    by_cases h : l.val < 64
    · exact .inl (if_pos h)
    · exact .inr ⟨⟨l.val - 64, by omega⟩, Fin.ext (by simp only []; omega)⟩

theorem scaleOf_at (m : FVec Ideal S256x128 .f32) (i : Fin 256) (l : Fin 128) : scaleOf m (ix2 i l) = Spec.scale 0x40E00000#32 (m (ix2 i l)) := by
  pointwise [scaleOf, splat, Spec.scale]

/-- A choice of two columns by lane. -/
def both (a b : FVec Ideal S256x1 .f32) : FVec Ideal S256x128 .f32 := select low (cols a) (cols b)
theorem both_at (a b : FVec Ideal S256x1 .f32) (i : Fin 256) (l : Fin 128) : both a b (ix2 i l) = if l.val < 64 then a (ix2 i 0) else b (ix2 i 0) := by
  show Scalar.select (low (ix2 i l)) (cols a (ix2 i l)) (cols b (ix2 i l)) = _
  rw [low_at, select_ite, cols_at, cols_at]

theorem sc_at (i : Fin 256) (l : Fin 128) : sc v (ix2 i l)
    = Spec.scale 0x40E00000#32 (if l.val < 64 then m0 v (ix2 i 0) else m1 v (ix2 i 0)) := by
  have e : sc v = scaleOf (both (m0 v) (m1 v)) := rfl
  rw [e, scaleOf_at, both_at]

/-- The rounded and clipped quotient of two arrays. -/
def quot (a b : FVec Ideal S256x128 .f32) : FVec Ideal S256x128 .f32 :=
  minimumf (splat 0x40E00000#32) (maximumf (splat 0xC0E00000#32) (roundeven (divf a b)))
theorem quot_at (a b : FVec Ideal S256x128 .f32) (i : Fin 256) (l : Fin 128) : quot a b (ix2 i l)
    = Spec.quant 0x40E00000#32 0xC0E00000#32 (a (ix2 i l)) (b (ix2 i l)) := by
  pointwise [quot, splat, Spec.quant]

theorem q_at (i : Fin 256) (l : Fin 128) : q v (ix2 i l) = Spec.quant 0x40E00000#32 0xC0E00000#32 (v (ix2 i l)) (sc v (ix2 i l)) := by
  have e : q v = quot v (sc v) := rfl
  rw [e, quot_at]

theorem deq_at (a b : FVec Ideal S256x128 .f32) (i : Fin 256) (l : Fin 128) :
    shapeCast S256x128 (mulf (truncf .bf16 a bitsLt_bf16_f32) (truncf .bf16 b bitsLt_bf16_f32)) shapeCasts_S256x128_S256x128 (ix2 i l)
      = a (ix2 i l) * b (ix2 i l) := by
  pointwise

theorem put_at (g g' : Fin 24) (acc : FVec Ideal S256x128 .f32) (i : Fin 256) (l : Fin 128) :
    put (BitVec.ofNat 32 g.val) (BitVec.ofNat 32 g'.val) v acc (ix2 i l)
      = if l.val = g.val then m0 v (ix2 i 0) else if l.val = g'.val then m1 v (ix2 i 0) else acc (ix2 i l) := by
  show Scalar.select (at_ _ (ix2 i l)) (cols _ (ix2 i l)) (Scalar.select (at_ _ (ix2 i l)) (cols _ (ix2 i l)) _) = _
  rw [at_at, at_at, select_ite, select_ite, cols_at, cols_at]

/-! ## A piece of rows -/

/-- Channel `128 p + l`. -/
def ch (p : Fin 12) (l : Fin 128) : Fin 1536 := ⟨128 * p.val + l.val, by omega⟩

variable {v} (Y : Fin 256 → Fin 1536 → EReal) (p : Fin 12) (h : ∀ i l, v (ix2 i l) = Y i (ch p l))
include h

theorem m0_row (i : Fin 256) : m0 v (ix2 i 0) = Spec.big fun k => Y i (Spec.chan ⟨2 * p.val, by omega⟩ k) := by
  rw [m0_at]
  refine congrArg Spec.big (funext fun k => ?_)
  rw [h]
  exact congrArg (Y i) (Fin.ext (by simp only [ch, Spec.chan]; omega))

theorem m1_row (i : Fin 256) : m1 v (ix2 i 0) = Spec.big fun k => Y i (Spec.chan ⟨2 * p.val + 1, by omega⟩ k) := by
  rw [m1_at]
  refine congrArg Spec.big (funext fun k => ?_)
  rw [h]
  exact congrArg (Y i) (Fin.ext (by simp only [ch, Spec.chan]; omega))

theorem sc_row (i : Fin 256) (l : Fin 128) : sc v (ix2 i l) = Spec.ws (Y i) (Spec.grp (ch p l)) := by
  rw [sc_at, m0_row Y p h, m1_row Y p h]
  unfold Spec.ws
  by_cases hl : l.val < 64
  · rw [if_pos hl]
    have e : Spec.grp (ch p l) = ⟨2 * p.val, by omega⟩ := Fin.ext (by simp only [ch, Spec.grp]; omega)
    rw [e]
  · rw [if_neg hl]
    have e : Spec.grp (ch p l) = ⟨2 * p.val + 1, by omega⟩ := Fin.ext (by simp only [ch, Spec.grp]; omega)
    rw [e]

theorem q_row (i : Fin 256) (l : Fin 128) : q v (ix2 i l) = Spec.wq (Y i) (ch p l) := by
  rw [q_at, sc_row Y p h, h]; rfl

theorem code_row (i : Fin 256) (l : Fin 128) : code v (ix2 i l) = FloatOps.fptosi (F := Ideal) (φ := .f32) 8 (Spec.wq (Y i) (ch p l)) := by
  show FloatOps.fptosi (F := Ideal) (φ := .f32) 8 (q v (ix2 i l)) = _
  rw [q_row Y p h]

theorem deq_row (i : Fin 256) (l : Fin 128) : deq v (ix2 i l) = Spec.wb (Y i) (ch p l) := by
  unfold deq
  rw [deq_at, q_row Y p h, sc_row Y p h]; rfl

theorem code_leaf (x : S256x128.Idx) (i : Fin 256) (j : Fin 1536) (h0 : i.val = (x 0).val) (h1 : j.val = 128 * p.val + (x 1).val) :
    code v x = FloatOps.fptosi (F := Ideal) (φ := .f32) 8 (Spec.wq (Y i) j) := by
  idx_vars x
  obtain rfl : i = x0 := Fin.ext h0
  refine (code_row Y p h i x1).trans ?_
  exact congrArg (fun z => FloatOps.fptosi (F := Ideal) (φ := .f32) 8 (Spec.wq (Y i) z)) (Fin.ext h1.symm)

theorem deq_leaf (x : S256x128.Idx) (i : Fin 256) (j : Fin 1536) (h0 : i.val = (x 0).val) (h1 : j.val = 128 * p.val + (x 1).val) :
    deq v x = Spec.wb (Y i) j := by
  idx_vars x
  obtain rfl : i = x0 := Fin.ext h0
  refine (deq_row Y p h i x1).trans ?_
  exact congrArg (Spec.wb (Y i)) (Fin.ext h1.symm)

end Cert.KernelIdeal.Grad

end
-- ==== Proof.Grad.Block.lean ====
/- A block of 256 rows of weights over the extended reals: its codes, quantised values and scales are those of the rows times the
   rotation. -/
module

public import proofs.«01_k».proof.Proof.Grad.Piece
public import Idealize.ShloMosaic.Lib.Pipeline.ValueKit

@[expose] public section

set_option maxRecDepth 16384

noncomputable section

namespace Cert.KernelIdeal.Grad

open Idealize.ShloMosaic Idealize.ShloMosaic.TcCoe Idealize.SL.Sem
open Cert.KernelIdeal Cert.KernelIdeal.Gen

variable (w : FVec Ideal S256x1536 .bf16)

theorem wr_at (rs : FVec Ideal S1536x256 .bf16) (i : Fin 256) (l : Fin 256) : wr (F := Ideal) w rs (ix2 i l) = ∑ j : Fin 1536, w (ix2 i j) * rs (ix2 j l) := by
  pointwise [wr]

theorem lo_at (y : FVec Ideal S256x256 .f32) (i : Fin 256) (l : Fin 128) : lo y (ix2 i l) = y (ix2 i ⟨l.val, by omega⟩) := by
  pointwise [lo]
theorem hi_at (y : FVec Ideal S256x256 .f32) (i : Fin 256) (l : Fin 128) : hi y (ix2 i l) = y (ix2 i ⟨128 + l.val, by omega⟩) := by
  pointwise [hi]

variable (rs0 rs1 rs2 rs3 rs4 rs5 : FVec Ideal S1536x256 .bf16) (Y : Fin 256 → Fin 1536 → EReal)
  (H0 : ∀ i l, lo (wr (F := Ideal) w rs0) (ix2 i l) = Y i (ch 0 l))
  (H1 : ∀ i l, hi (wr (F := Ideal) w rs0) (ix2 i l) = Y i (ch 1 l))
  (H2 : ∀ i l, lo (wr (F := Ideal) w rs1) (ix2 i l) = Y i (ch 2 l))
  (H3 : ∀ i l, hi (wr (F := Ideal) w rs1) (ix2 i l) = Y i (ch 3 l))
  (H4 : ∀ i l, lo (wr (F := Ideal) w rs2) (ix2 i l) = Y i (ch 4 l))
  (H5 : ∀ i l, hi (wr (F := Ideal) w rs2) (ix2 i l) = Y i (ch 5 l))
  (H6 : ∀ i l, lo (wr (F := Ideal) w rs3) (ix2 i l) = Y i (ch 6 l))
  (H7 : ∀ i l, hi (wr (F := Ideal) w rs3) (ix2 i l) = Y i (ch 7 l))
  (H8 : ∀ i l, lo (wr (F := Ideal) w rs4) (ix2 i l) = Y i (ch 8 l))
  (H9 : ∀ i l, hi (wr (F := Ideal) w rs4) (ix2 i l) = Y i (ch 9 l))
  (H10 : ∀ i l, lo (wr (F := Ideal) w rs5) (ix2 i l) = Y i (ch 10 l))
  (H11 : ∀ i l, hi (wr (F := Ideal) w rs5) (ix2 i l) = Y i (ch 11 l))
include H0 H1 H2 H3 H4 H5 H6 H7 H8 H9 H10 H11

theorem wc_canon (i : Fin 256) (j : Fin 1536) : View.canon (wcL (F := Ideal) w rs0 rs1 rs2 rs3 rs4 rs5) (ix2 i j) = FloatOps.fptosi (F := Ideal) (φ := .f32) 8 (Spec.wq (Y i) j) := by
  unfold wcL
  canon_tiles x h
  · exact code_leaf Y 11 H11 x i j h0 h1
  · exact code_leaf Y 10 H10 x i j h0 h1
  · exact code_leaf Y 9 H9 x i j h0 h1
  · exact code_leaf Y 8 H8 x i j h0 h1
  · exact code_leaf Y 7 H7 x i j h0 h1
  · exact code_leaf Y 6 H6 x i j h0 h1
  · exact code_leaf Y 5 H5 x i j h0 h1
  · exact code_leaf Y 4 H4 x i j h0 h1
  · exact code_leaf Y 3 H3 x i j h0 h1
  · exact code_leaf Y 2 H2 x i j h0 h1
  · exact code_leaf Y 1 H1 x i j h0 h1
  · exact code_leaf Y 0 H0 x i j h0 (h1.trans (Nat.zero_add _).symm)

theorem wq_canon (i : Fin 256) (j : Fin 1536) : View.canon (wqL (F := Ideal) w rs0 rs1 rs2 rs3 rs4 rs5) (ix2 i j) = Spec.wb (Y i) j := by
  unfold wqL
  canon_tiles x h
  · exact deq_leaf Y 11 H11 x i j h0 h1
  · exact deq_leaf Y 10 H10 x i j h0 h1
  · exact deq_leaf Y 9 H9 x i j h0 h1
  · exact deq_leaf Y 8 H8 x i j h0 h1
  · exact deq_leaf Y 7 H7 x i j h0 h1
  · exact deq_leaf Y 6 H6 x i j h0 h1
  · exact deq_leaf Y 5 H5 x i j h0 h1
  · exact deq_leaf Y 4 H4 x i j h0 h1
  · exact deq_leaf Y 3 H3 x i j h0 h1
  · exact deq_leaf Y 2 H2 x i j h0 h1
  · exact deq_leaf Y 1 H1 x i j h0 h1
  · exact deq_leaf Y 0 H0 x i j h0 (h1.trans (Nat.zero_add _).symm)

theorem mx_at (i : Fin 256) (g : Fin 24) : mx (F := Ideal) w rs0 rs1 rs2 rs3 rs4 rs5 (ix2 i ⟨g.val, by omega⟩) = Spec.big fun k => Y i (Spec.chan g k) := by
  unfold mx
  have P0 : ∀ (acc : FVec Ideal S256x128 .f32) (l : Fin 128), put 0#32 1#32 (lo (wr (F := Ideal) w rs0)) acc (ix2 i l)
      = if l.val = 0 then (Spec.big fun k => Y i (Spec.chan 0 k)) else if l.val = 1 then (Spec.big fun k => Y i (Spec.chan 1 k)) else acc (ix2 i l) :=
    fun acc l => (put_at _ 0 1 acc i l).trans (by rw [m0_row Y 0 H0, m1_row Y 0 H0]; rfl)
  have P1 : ∀ (acc : FVec Ideal S256x128 .f32) (l : Fin 128), put 2#32 3#32 (hi (wr (F := Ideal) w rs0)) acc (ix2 i l)
      = if l.val = 2 then (Spec.big fun k => Y i (Spec.chan 2 k)) else if l.val = 3 then (Spec.big fun k => Y i (Spec.chan 3 k)) else acc (ix2 i l) :=
    fun acc l => (put_at _ 2 3 acc i l).trans (by rw [m0_row Y 1 H1, m1_row Y 1 H1]; rfl)
  have P2 : ∀ (acc : FVec Ideal S256x128 .f32) (l : Fin 128), put 4#32 5#32 (lo (wr (F := Ideal) w rs1)) acc (ix2 i l)
      = if l.val = 4 then (Spec.big fun k => Y i (Spec.chan 4 k)) else if l.val = 5 then (Spec.big fun k => Y i (Spec.chan 5 k)) else acc (ix2 i l) :=
    fun acc l => (put_at _ 4 5 acc i l).trans (by rw [m0_row Y 2 H2, m1_row Y 2 H2]; rfl)
  have P3 : ∀ (acc : FVec Ideal S256x128 .f32) (l : Fin 128), put 6#32 7#32 (hi (wr (F := Ideal) w rs1)) acc (ix2 i l)
      = if l.val = 6 then (Spec.big fun k => Y i (Spec.chan 6 k)) else if l.val = 7 then (Spec.big fun k => Y i (Spec.chan 7 k)) else acc (ix2 i l) :=
    fun acc l => (put_at _ 6 7 acc i l).trans (by rw [m0_row Y 3 H3, m1_row Y 3 H3]; rfl)
  have P4 : ∀ (acc : FVec Ideal S256x128 .f32) (l : Fin 128), put 8#32 9#32 (lo (wr (F := Ideal) w rs2)) acc (ix2 i l)
      = if l.val = 8 then (Spec.big fun k => Y i (Spec.chan 8 k)) else if l.val = 9 then (Spec.big fun k => Y i (Spec.chan 9 k)) else acc (ix2 i l) :=
    fun acc l => (put_at _ 8 9 acc i l).trans (by rw [m0_row Y 4 H4, m1_row Y 4 H4]; rfl)
  have P5 : ∀ (acc : FVec Ideal S256x128 .f32) (l : Fin 128), put 10#32 11#32 (hi (wr (F := Ideal) w rs2)) acc (ix2 i l)
      = if l.val = 10 then (Spec.big fun k => Y i (Spec.chan 10 k)) else if l.val = 11 then (Spec.big fun k => Y i (Spec.chan 11 k)) else acc (ix2 i l) :=
    fun acc l => (put_at _ 10 11 acc i l).trans (by rw [m0_row Y 5 H5, m1_row Y 5 H5]; rfl)
  have P6 : ∀ (acc : FVec Ideal S256x128 .f32) (l : Fin 128), put 12#32 13#32 (lo (wr (F := Ideal) w rs3)) acc (ix2 i l)
      = if l.val = 12 then (Spec.big fun k => Y i (Spec.chan 12 k)) else if l.val = 13 then (Spec.big fun k => Y i (Spec.chan 13 k)) else acc (ix2 i l) :=
    fun acc l => (put_at _ 12 13 acc i l).trans (by rw [m0_row Y 6 H6, m1_row Y 6 H6]; rfl)
  have P7 : ∀ (acc : FVec Ideal S256x128 .f32) (l : Fin 128), put 14#32 15#32 (hi (wr (F := Ideal) w rs3)) acc (ix2 i l)
      = if l.val = 14 then (Spec.big fun k => Y i (Spec.chan 14 k)) else if l.val = 15 then (Spec.big fun k => Y i (Spec.chan 15 k)) else acc (ix2 i l) :=
    fun acc l => (put_at _ 14 15 acc i l).trans (by rw [m0_row Y 7 H7, m1_row Y 7 H7]; rfl)
  have P8 : ∀ (acc : FVec Ideal S256x128 .f32) (l : Fin 128), put 16#32 17#32 (lo (wr (F := Ideal) w rs4)) acc (ix2 i l)
      = if l.val = 16 then (Spec.big fun k => Y i (Spec.chan 16 k)) else if l.val = 17 then (Spec.big fun k => Y i (Spec.chan 17 k)) else acc (ix2 i l) :=
    fun acc l => (put_at _ 16 17 acc i l).trans (by rw [m0_row Y 8 H8, m1_row Y 8 H8]; rfl)
  have P9 : ∀ (acc : FVec Ideal S256x128 .f32) (l : Fin 128), put 18#32 19#32 (hi (wr (F := Ideal) w rs4)) acc (ix2 i l)
      = if l.val = 18 then (Spec.big fun k => Y i (Spec.chan 18 k)) else if l.val = 19 then (Spec.big fun k => Y i (Spec.chan 19 k)) else acc (ix2 i l) :=
    fun acc l => (put_at _ 18 19 acc i l).trans (by rw [m0_row Y 9 H9, m1_row Y 9 H9]; rfl)
  have P10 : ∀ (acc : FVec Ideal S256x128 .f32) (l : Fin 128), put 20#32 21#32 (lo (wr (F := Ideal) w rs5)) acc (ix2 i l)
      = if l.val = 20 then (Spec.big fun k => Y i (Spec.chan 20 k)) else if l.val = 21 then (Spec.big fun k => Y i (Spec.chan 21 k)) else acc (ix2 i l) :=
    fun acc l => (put_at _ 20 21 acc i l).trans (by rw [m0_row Y 10 H10, m1_row Y 10 H10]; rfl)
  have P11 : ∀ (acc : FVec Ideal S256x128 .f32) (l : Fin 128), put 22#32 23#32 (hi (wr (F := Ideal) w rs5)) acc (ix2 i l)
      = if l.val = 22 then (Spec.big fun k => Y i (Spec.chan 22 k)) else if l.val = 23 then (Spec.big fun k => Y i (Spec.chan 23 k)) else acc (ix2 i l) :=
    fun acc l => (put_at _ 22 23 acc i l).trans (by rw [m0_row Y 11 H11, m1_row Y 11 H11]; rfl)
  rw [P11, P10, P9, P8, P7, P6, P5, P4, P3, P2, P1, P0]
  fin_cases g <;> rfl

theorem wsL_at (i : Fin 256) (g : Fin 24) : wsL (F := Ideal) w rs0 rs1 rs2 rs3 rs4 rs5 (ix2 i g) = Spec.ws (Y i) g := by
  have e : wsL (F := Ideal) w rs0 rs1 rs2 rs3 rs4 rs5 (ix2 i g) = scaleOf (mx (F := Ideal) w rs0 rs1 rs2 rs3 rs4 rs5) (ix2 i ⟨g.val, by omega⟩) := by
    unfold wsL
    generalize scaleOf (mx (F := Ideal) w rs0 rs1 rs2 rs3 rs4 rs5) = s
    pointwise
  rw [e, scaleOf_at, mx_at w rs0 rs1 rs2 rs3 rs4 rs5 Y H0 H1 H2 H3 H4 H5 H6 H7 H8 H9 H10 H11]
  rfl

end Cert.KernelIdeal.Grad

end
-- ==== Proof.Grad.Step.lean ====
/- One step of the accumulation over the extended reals: what a block of 256 rows of weights adds to each accumulator. -/
module

public import proofs.«01_k».proof.Proof.Grad.Block
public import Idealize.ShloMosaic.PureOps.IdealRules

@[expose] public section

set_option maxRecDepth 16384

noncomputable section

namespace Cert.KernelIdeal.Grad

open Idealize.ShloMosaic Idealize.ShloMosaic.TcCoe Idealize.SL.Sem
open Cert.KernelIdeal Cert.KernelIdeal.Gen Cert.Spec

/-! ## The block of weights -/

section Weights

variable (w : FVec Ideal S256x1536 .bf16) (rb : FVec Ideal S1536x1536 .bf16)

theorem ld0 (k : Fin 1536) (l : Fin 256) : (View.ld rb (Rect.unit (s := S1536x1536) ![0, 0] S1536x256.size inb_S1536x1536_S1536x256_0_0) : Vec Ideal S1536x256 .bf16) (ix2 k l)
    = rb (ix2 k ⟨0 + l.val, by omega⟩) := by
  pointwise

theorem ld1 (k : Fin 1536) (l : Fin 256) : (View.ld rb (Rect.unit (s := S1536x1536) ![0, 256] S1536x256.size inb_S1536x1536_S1536x256_0_256) : Vec Ideal S1536x256 .bf16) (ix2 k l)
    = rb (ix2 k ⟨256 + l.val, by omega⟩) := by
  pointwise

theorem ld2 (k : Fin 1536) (l : Fin 256) : (View.ld rb (Rect.unit (s := S1536x1536) ![0, 512] S1536x256.size inb_S1536x1536_S1536x256_0_512) : Vec Ideal S1536x256 .bf16) (ix2 k l)
    = rb (ix2 k ⟨512 + l.val, by omega⟩) := by
  pointwise

theorem ld3 (k : Fin 1536) (l : Fin 256) : (View.ld rb (Rect.unit (s := S1536x1536) ![0, 768] S1536x256.size inb_S1536x1536_S1536x256_0_768) : Vec Ideal S1536x256 .bf16) (ix2 k l)
    = rb (ix2 k ⟨768 + l.val, by omega⟩) := by
  pointwise

theorem ld4 (k : Fin 1536) (l : Fin 256) : (View.ld rb (Rect.unit (s := S1536x1536) ![0, 1024] S1536x256.size inb_S1536x1536_S1536x256_0_1024) : Vec Ideal S1536x256 .bf16) (ix2 k l)
    = rb (ix2 k ⟨1024 + l.val, by omega⟩) := by
  pointwise

theorem ld5 (k : Fin 1536) (l : Fin 256) : (View.ld rb (Rect.unit (s := S1536x1536) ![0, 1280] S1536x256.size inb_S1536x1536_S1536x256_0_1280) : Vec Ideal S1536x256 .bf16) (ix2 k l)
    = rb (ix2 k ⟨1280 + l.val, by omega⟩) := by
  pointwise

/-- 256 columns, from the rotation's own. -/
theorem lo_row (rs : FVec Ideal S1536x256 .bf16) (p : Fin 6) (h : ∀ k l, rs (ix2 k l) = rb (ix2 k ⟨256 * p.val + l.val, by omega⟩)) (i : Fin 256) (l : Fin 128) :
    lo (wr (F := Ideal) w rs) (ix2 i l) = rot (mat rb) (mat w i) (ch ⟨2 * p.val, by omega⟩ l) := by
  rw [lo_at, wr_at]
  refine Finset.sum_congr rfl fun k _ => congrArg (w (ix2 i k) * ·) ?_
  rw [h]
  exact congrArg (fun z => rb (ix2 k z)) (Fin.ext (by simp only [ch]; omega))

theorem hi_row (rs : FVec Ideal S1536x256 .bf16) (p : Fin 6) (h : ∀ k l, rs (ix2 k l) = rb (ix2 k ⟨256 * p.val + l.val, by omega⟩)) (i : Fin 256) (l : Fin 128) :
    hi (wr (F := Ideal) w rs) (ix2 i l) = rot (mat rb) (mat w i) (ch ⟨2 * p.val + 1, by omega⟩ l) := by
  rw [hi_at, wr_at]
  refine Finset.sum_congr rfl fun k _ => congrArg (w (ix2 i k) * ·) ?_
  rw [h]
  exact congrArg (fun z => rb (ix2 k z)) (Fin.ext (by simp only [ch]; omega))

theorem wcM_at (i : Fin 256) (j : Fin 1536) : wcM (F := Ideal) w rb (ix2 i j)
    = FloatOps.fptosi (F := Ideal) (φ := .f32) 8 (wq (rot (mat rb) (mat w i)) j) :=
  wc_canon w _ _ _ _ _ _ (fun i => rot (mat rb) (mat w i)) (lo_row w rb _ 0 (ld0 rb)) (hi_row w rb _ 0 (ld0 rb)) (lo_row w rb _ 1 (ld1 rb)) (hi_row w rb _ 1 (ld1 rb)) (lo_row w rb _ 2 (ld2 rb)) (hi_row w rb _ 2 (ld2 rb)) (lo_row w rb _ 3 (ld3 rb)) (hi_row w rb _ 3 (ld3 rb)) (lo_row w rb _ 4 (ld4 rb)) (hi_row w rb _ 4 (ld4 rb)) (lo_row w rb _ 5 (ld5 rb)) (hi_row w rb _ 5 (ld5 rb)) i j

theorem wqM_at (i : Fin 256) (j : Fin 1536) : wqM (F := Ideal) w rb (ix2 i j) = wb (rot (mat rb) (mat w i)) j :=
  wq_canon w _ _ _ _ _ _ (fun i => rot (mat rb) (mat w i)) (lo_row w rb _ 0 (ld0 rb)) (hi_row w rb _ 0 (ld0 rb)) (lo_row w rb _ 1 (ld1 rb)) (hi_row w rb _ 1 (ld1 rb)) (lo_row w rb _ 2 (ld2 rb)) (hi_row w rb _ 2 (ld2 rb)) (lo_row w rb _ 3 (ld3 rb)) (hi_row w rb _ 3 (ld3 rb)) (lo_row w rb _ 4 (ld4 rb)) (hi_row w rb _ 4 (ld4 rb)) (lo_row w rb _ 5 (ld5 rb)) (hi_row w rb _ 5 (ld5 rb)) i j

theorem wsM_at (i : Fin 256) (g : Fin 24) : wsM (F := Ideal) w rb (ix2 i g) = ws (rot (mat rb) (mat w i)) g :=
  wsL_at w _ _ _ _ _ _ (fun i => rot (mat rb) (mat w i)) (lo_row w rb _ 0 (ld0 rb)) (hi_row w rb _ 0 (ld0 rb)) (lo_row w rb _ 1 (ld1 rb)) (hi_row w rb _ 1 (ld1 rb)) (lo_row w rb _ 2 (ld2 rb)) (hi_row w rb _ 2 (ld2 rb)) (lo_row w rb _ 3 (ld3 rb)) (hi_row w rb _ 3 (ld3 rb)) (lo_row w rb _ 4 (ld4 rb)) (hi_row w rb _ 4 (ld4 rb)) (lo_row w rb _ 5 (ld5 rb)) (hi_row w rb _ 5 (ld5 rb)) i g

end Weights

/-! ## The products of a step, from the quantised block -/

section Products

variable (x : FVec Ideal S512x1536 .bf16) (w q : FVec Ideal S256x1536 .bf16) (qb : FVec Ideal S512x1536 .bf16) (s : FVec Ideal S512x1 .f32)
variable (yf yq : FVec Ideal S512x256 .f32)

theorem yf_at (n : Fin 512) (o : Fin 256) : k0_pay152 (F := Ideal) w x (ix2 n o) = ∑ d : Fin 1536, x (ix2 n d) * w (ix2 o d) := by
  pointwise [k0_pay152]
theorem yq_at (n : Fin 512) (o : Fin 256) : k0_pay153 (F := Ideal) q qb s (ix2 n o) = (∑ d : Fin 1536, qb (ix2 n d) * q (ix2 o d)) * s (ix2 n 0) := by
  pointwise [k0_pay153]
theorem e_at (n : Fin 512) (o : Fin 256) : k0_pay154 (F := Ideal) yf yq (ix2 n o) = yq (ix2 n o) - yf (ix2 n o) := by
  pointwise [k0_pay154]

/-- The two halves' squares added to an array. -/
def sqAdd (e : FVec Ideal S512x256 .f32) (a : FVec Ideal S512x128 .f32) : FVec Ideal S512x128 .f32 :=
  shapeCast S512x128 (addf (addf a (extractStridedSlice S512x128 ![0, 0] (mulf e e) slices_S512x256_o0_0_S512x128))
    (extractStridedSlice S512x128 ![0, 128] (mulf e e) slices_S512x256_o0_128_S512x128)) shapeCasts_S512x128_S512x128
theorem sqAdd_at (e : FVec Ideal S512x256 .f32) (a : FVec Ideal S512x128 .f32) (n : Fin 512) (l : Fin 128) : sqAdd e a (ix2 n l)
    = a (ix2 n l) + e (ix2 n ⟨l.val, by omega⟩) * e (ix2 n ⟨l.val, by omega⟩) + e (ix2 n ⟨128 + l.val, by omega⟩) * e (ix2 n ⟨128 + l.val, by omega⟩) := by
  pointwise [sqAdd]

/-- The derivative of an error. -/
def dyOf (e : FVec Ideal S512x256 .f32) : FVec Ideal S512x256 .f32 := mulf e (broadcast S512x256 (Scalar.ofBits .f32 0x34EA0EA1#32))
theorem dyOf_at (e : FVec Ideal S512x256 .f32) (n : Fin 512) (o : Fin 256) : dyOf e (ix2 n o) = e (ix2 n o) * Ideal.ofBits FTy.f32 0x34EA0EA1#32 := by
  pointwise [dyOf]

theorem dxr_at (a : FVec Ideal S512x1536 .f32) (n : Fin 512) (d : Fin 1536) : k0_pay157 (F := Ideal) q yf yq a (ix2 n d)
    = a (ix2 n d) + ∑ o : Fin 256, k0_pay156 (F := Ideal) yf yq (ix2 n o) * q (ix2 o d) := by
  pointwise [k0_pay157]

theorem dwr_at (qt : FVec Ideal S1536x512 .bf16) (i : Fin 1536) (o : Fin 256) : k0_pay159 (F := Ideal) yf s yq qt (ix2 i o)
    = ∑ n : Fin 512, qt (ix2 i n) * (k0_pay156 (F := Ideal) yf yq (ix2 n o) * s (ix2 n 0)) := by
  pointwise [k0_pay159]

theorem gt_at (a : FVec Ideal S1536x1536 .f32) (dw : FVec Ideal S1536x256 .bf16) (i j : Fin 1536) : k0_pay1 (F := Ideal) w (k0_pay158 a) dw (ix2 i j)
    = a (ix2 i j) + ∑ o : Fin 256, dw (ix2 i o) * w (ix2 o j) := by
  pointwise [k0_pay1, k0_pay158]

theorem fin_at (a : FVec Ideal S1536x1536 .f32) (dx : FVec Ideal S512x1536 .f32) (i j : Fin 1536) : k0_pay3 (F := Ideal) a dx x (ix2 i j)
    = a (ix2 i j) + ∑ n : Fin 512, dx (ix2 n i) * x (ix2 n j) := by
  pointwise [k0_pay3]

theorem lt_at (a : FVec Ideal S512x128 .f32) (n : Fin 512) : k0_pay2 (F := Ideal) a (ix2 n 0)
    = (∑ l : Fin 128, a (ix2 n l)) * ((1 / 8960 : ℝ) : EReal) := by
  pointwise [k0_pay2]
  refine congrArg _ ?_
  exact IdealRules.named_const.ideal_named_scalar _ _ _ _ rfl

theorem xs1_at (sb : FVec Ideal S512x128 .f32) (n : Fin 512) : xs1 (F := Ideal) sb (ix2 n 0) = sb (ix2 n 0) := by
  pointwise [xs1]

end Products

end Cert.KernelIdeal.Grad

end
-- ==== Proof.Grad.Tokens.lean ====
/- The tokens over the extended reals: the scales, codes and quantised values the first step stores are those of the rows times the
   rotation. -/
module

public import proofs.«01_k».proof.Proof.Grad.Step

@[expose] public section

set_option maxRecDepth 16384

noncomputable section

namespace Cert.KernelIdeal.Grad

open Idealize.ShloMosaic Idealize.ShloMosaic.TcCoe Idealize.SL.Sem
open Cert.KernelIdeal Cert.KernelIdeal.Gen Cert.Spec

variable (y : FVec Ideal S512x1536 .f32) (s : FVec Ideal S512x1 .f32)

/-- The largest magnitudes of rows of tokens, -/
def tokMax : FVec Ideal S512x1 .f32 :=
  shapeCast S512x1 (multiReduction .maximumf [1] S512 (absf y) 0xFF800000#32 reduces_S512x1536_S512 (.inl rfl) rfl) shapeCasts_S512_S512x1
/-- the scales of such magnitudes, -/
def tokScale : FVec Ideal S512x1 .f32 :=
  select (cmpf .oeq s (broadcast S512x1 (Scalar.ofBits .f32 0x00000000#32))) (broadcast S512x1 (Scalar.ofBits .f32 0x3F800000#32))
    (divf s (broadcast S512x1 (Scalar.ofBits .f32 0x42FE0000#32)))
/-- and the rounded and clipped quotients by scales. -/
def tokQuant : FVec Ideal S512x1536 .f32 :=
  minimumf (broadcast S512x1536 (Scalar.ofBits .f32 0x42FE0000#32)) (maximumf (broadcast S512x1536 (Scalar.ofBits .f32 0xC2FE0000#32))
    (roundeven (divf y (broadcastTo S512x1536 s broadcasts_S512x1_S512x1536))))

theorem tokMax_at (n : Fin 512) : tokMax y (ix2 n 0) = big fun d => y (ix2 n d) := by
  pointwise [tokMax, big]
theorem tokScale_at (n : Fin 512) : tokScale s (ix2 n 0) = scale 0x42FE0000#32 (s (ix2 n 0)) := by
  pointwise [tokScale, scale]
theorem tokQuant_at (n : Fin 512) (d : Fin 1536) : tokQuant y s (ix2 n d) = quant 0x42FE0000#32 0xC2FE0000#32 (y (ix2 n d)) (s (ix2 n 0)) := by
  pointwise [tokQuant, quant]

variable (x : FVec Ideal S512x1536 .bf16) (rb : FVec Ideal S1536x1536 .bf16) (r : FVec Ideal S1536x1536 .f32)

theorem rb_at (i j : Fin 1536) : k0_pay4 (F := Ideal) r (ix2 i j) = r (ix2 i j) := by
  pointwise [k0_pay4]
theorem rb_mat : mat (k0_pay4 (F := Ideal) r) = mat r := funext fun i => funext fun j => rb_at r i j

theorem xr_at (n : Fin 512) (d : Fin 1536) : k0_pay5 (F := Ideal) x rb (ix2 n d) = ∑ j : Fin 1536, x (ix2 n j) * rb (ix2 j d) := by
  pointwise [k0_pay5]
theorem xr_row (n : Fin 512) : (fun d => k0_pay5 (F := Ideal) x rb (ix2 n d)) = rot (mat rb) (mat x n) := funext fun d => xr_at x rb n d

theorem xs_at (n : Fin 512) : k0_pay6 (F := Ideal) x rb (ix2 n 0) = xs (rot (mat rb) (mat x n)) := by
  have e : k0_pay6 (F := Ideal) x rb = tokScale (tokMax (k0_pay5 (F := Ideal) x rb)) := rfl
  rw [e, tokScale_at, tokMax_at, xr_row]; rfl

theorem xq_at (n : Fin 512) (d : Fin 1536) : k0_pay7 (F := Ideal) x rb (ix2 n d) = xq (rot (mat rb) (mat x n)) d := by
  have e : k0_pay7 (F := Ideal) x rb = tokQuant (k0_pay5 (F := Ideal) x rb) (k0_pay6 (F := Ideal) x rb) := rfl
  rw [e, tokQuant_at, xs_at, congrFun (xr_row x rb n) d]; rfl

theorem xc_at (n : Fin 512) (d : Fin 1536) : k0_pay8 (F := Ideal) x rb (ix2 n d)
    = FloatOps.fptosi (F := Ideal) (φ := .f32) 8 (xq (rot (mat rb) (mat x n)) d) := by
  show FloatOps.fptosi (F := Ideal) (φ := .f32) 8 (k0_pay7 (F := Ideal) x rb (ix2 n d)) = _
  rw [xq_at]

theorem cast_at (v : FVec Ideal S512x1536 .f32) (n : Fin 512) (d : Fin 1536) :
    shapeCast S512x1536 (truncf .bf16 v bitsLt_bf16_f32) shapeCasts_S512x1536_S512x1536 (ix2 n d) = v (ix2 n d) := by
  pointwise
theorem castT_at (v : FVec Ideal S512x1536 .f32) (n : Fin 512) (d : Fin 1536) :
    shapeCast S1536x512 (transpose S1536x512 [1, 0] (truncf .bf16 v bitsLt_bf16_f32) transposes_S512x1536_p1_0_S1536x512) shapeCasts_S1536x512_S1536x512 (ix2 d n)
      = v (ix2 n d) := by
  pointwise
theorem lanes_at (n : Fin 512) (l : Fin 128) : k0_pay14 (F := Ideal) s (ix2 n l) = s (ix2 n 0) := by
  pointwise [k0_pay14]

/-- What the first step keeps, -/
theorem qb_at (n : Fin 512) (d : Fin 1536) : (toks (F := Ideal) x r).qb (ix2 n d) = xq (rot (mat r) (mat x n)) d := by
  have e : (toks (F := Ideal) x r).qb = shapeCast S512x1536 (truncf .bf16 (k0_pay7 (F := Ideal) x (k0_pay4 (F := Ideal) r)) bitsLt_bf16_f32) shapeCasts_S512x1536_S512x1536 := rfl
  rw [e, cast_at, xq_at, rb_mat]
theorem qt_at (n : Fin 512) (d : Fin 1536) : (toks (F := Ideal) x r).qt (ix2 d n) = xq (rot (mat r) (mat x n)) d := by
  have e : (toks (F := Ideal) x r).qt = shapeCast S1536x512 (transpose S1536x512 [1, 0] (truncf .bf16 (k0_pay7 (F := Ideal) x (k0_pay4 (F := Ideal) r)) bitsLt_bf16_f32) transposes_S512x1536_p1_0_S1536x512) shapeCasts_S1536x512_S1536x512 := rfl
  rw [e, castT_at, xq_at, rb_mat]
theorem sb_at (n : Fin 512) : xs1 (toks (F := Ideal) x r).sb (ix2 n 0) = xs (rot (mat r) (mat x n)) := by
  have e : xs1 (toks (F := Ideal) x r).sb = xs1 (k0_pay14 (F := Ideal) (k0_pay6 (F := Ideal) x (k0_pay4 (F := Ideal) r))) := by dsimp only [toks]
  rw [e, xs1_at, lanes_at, xs_at, rb_mat]

/-! ## One step -/

variable (w : FVec Ideal S256x1536 .bf16) (A : Acc Ideal)

/-- The quantised product and the exact one, -/
def yqOf : FVec Ideal S512x256 .f32 := k0_pay153 (F := Ideal) (wqM (F := Ideal) w (toks (F := Ideal) x r).rb) (toks (F := Ideal) x r).qb (xs1 (toks (F := Ideal) x r).sb)
def yfOf : FVec Ideal S512x256 .f32 := k0_pay152 (F := Ideal) w x

theorem wq_blk (o : Fin 256) (d : Fin 1536) : wqM (F := Ideal) w (toks (F := Ideal) x r).rb (ix2 o d) = wb (rot (mat r) (mat w o)) d := by
  have e : (toks (F := Ideal) x r).rb = k0_pay4 (F := Ideal) r := rfl
  rw [wqM_at, e, rb_mat]

/-- their difference, -/
theorem er_blk (n : Fin 512) (o : Fin 256) : k0_pay154 (F := Ideal) (yfOf x w) (yqOf x r w) (ix2 n o) = er (mat x) (mat r) n (mat w o) := by
  rw [e_at, yqOf, yfOf, yq_at, yf_at, sb_at]
  simp only [qb_at, wq_blk]
  rfl

/-- its derivative, -/
theorem dy_blk (n : Fin 512) (o : Fin 256) : k0_pay156 (F := Ideal) (yfOf x w) (yqOf x r w) (ix2 n o) = dy (mat x) (mat r) n (mat w o) := by
  have e : k0_pay156 (F := Ideal) (yfOf x w) (yqOf x r w) = dyOf (k0_pay154 (F := Ideal) (yfOf x w) (yqOf x r w)) := rfl
  rw [e, dyOf_at, er_blk]; rfl

/-- and what the step adds to each accumulator. -/
theorem step_dxr (n : Fin 512) (d : Fin 1536) : (step (F := Ideal) x w (toks (F := Ideal) x r) A).dxr (ix2 n d)
    = A.dxr (ix2 n d) + ∑ o : Fin 256, dy (mat x) (mat r) n (mat w o) * wb (rot (mat r) (mat w o)) d := by
  have e : (step (F := Ideal) x w (toks (F := Ideal) x r) A).dxr
      = k0_pay157 (F := Ideal) (wqM (F := Ideal) w (toks (F := Ideal) x r).rb) (yfOf x w) (yqOf x r w) A.dxr := rfl
  rw [e, dxr_at]
  simp only [dy_blk, wq_blk]

theorem step_l2 (n : Fin 512) (l : Fin 128) : (step (F := Ideal) x w (toks (F := Ideal) x r) A).l2 (ix2 n l)
    = A.l2 (ix2 n l) + (er (mat x) (mat r) n (mat w ⟨l.val, by omega⟩) * er (mat x) (mat r) n (mat w ⟨l.val, by omega⟩)
      + er (mat x) (mat r) n (mat w ⟨128 + l.val, by omega⟩) * er (mat x) (mat r) n (mat w ⟨128 + l.val, by omega⟩)) := by
  have e : (step (F := Ideal) x w (toks (F := Ideal) x r) A).l2 = sqAdd (k0_pay154 (F := Ideal) (yfOf x w) (yqOf x r w)) A.l2 := rfl
  rw [e, sqAdd_at, er_blk, er_blk, add_assoc]

theorem step_gt (i j : Fin 1536) : (step (F := Ideal) x w (toks (F := Ideal) x r) A).gt (ix2 i j)
    = A.gt (ix2 i j) + ∑ o : Fin 256, dwr (mat x) (mat r) (mat w o) i * mat w o j := by
  have e : (step (F := Ideal) x w (toks (F := Ideal) x r) A).gt
      = k0_pay1 (F := Ideal) w (k0_pay158 A.gt) (k0_pay159 (F := Ideal) (yfOf x w) (xs1 (toks (F := Ideal) x r).sb) (yqOf x r w) (toks (F := Ideal) x r).qt) := rfl
  rw [e, gt_at]
  refine congrArg _ (Finset.sum_congr rfl fun o _ => congrArg (· * mat w o j) ?_)
  rw [dwr_at]
  simp only [sb_at, qt_at, dy_blk]
  rfl

end Cert.KernelIdeal.Grad

end
-- ==== Proof.Grad.Blocks.lean ====
/- What the blocks are of the argument arrays, and what the output arrays are of the last blocks. -/
module

public import proofs.«01_k».proof.Proof.Grad.Frame
public import Idealize.ShloMosaic.Lib.Pipeline.ValueKit

@[expose] public section

set_option maxRecDepth 16384

noncomputable section

namespace Cert.KernelIdeal.Grad

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ) (c : Dev nD)

theorem idx : ∀ t : Fin cfg0.N, win0_0.index t = ![0, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

theorem blk0 (t : Fin cfg0.N) (n : Fin 512) (d : Fin 1536) :
    (iblk m c 0 t : Vec F S512x1536 .bf16) (ix2 n d) = m ((c : Thread nD τ).loc main_arg0) (ix2 n d) := by
  blk_point [iblk, V, idx t]

theorem blk1 (t : Fin cfg0.N) (i : Fin 256) (d : Fin 1536) (o : Fin 8960) (h : o.val = 256 * t.val + i.val) :
    (iblk m c 1 t : Vec F S256x1536 .bf16) (ix2 i d) = m ((c : Thread nD τ).loc main_arg1) (ix2 o d) := by
  blk_point [iblk, V, idx t]

theorem blk2 (t : Fin cfg0.N) (i j : Fin 1536) :
    (iblk m c 2 t : Vec F S1536x1536 .f32) (ix2 i j) = m ((c : Thread nD τ).loc main_arg2) (ix2 i j) := by
  blk_point [iblk, V, idx t]

/-- The last grid point. -/
def last : Fin cfg0.N := ⟨34, by have e : cfg0.N = 35 := N_0; omega⟩

theorem final3 : (dats m 0 c).arrAt 3 cfg0.N = XC m c := by
  refine (dats m 0 c).arrAt_eq_of_after_last 3 last (by decide +kernel) _ fun j => ?_
  blk_simp
  rw [after0_3]

theorem final4 : (dats m 0 c).arrAt 4 cfg0.N = XS m c := by
  refine (dats m 0 c).arrAt_eq_of_after_last 4 last (by decide +kernel) _ fun j => ?_
  blk_simp
  rw [after0_4]

theorem final7 : (dats m 0 c).arrAt 7 cfg0.N = ltM (accAt m c 34 last.isLt) := by
  refine (dats m 0 c).arrAt_eq_of_after_last 7 last (by decide +kernel) _ fun j => ?_
  blk_simp
  rw [after0_7]
  rfl

theorem final8 : (dats m 0 c).arrAt 8 cfg0.N = (fin (iblk m c 0 last) (accAt m c 34 last.isLt)).gt := by
  refine (dats m 0 c).arrAt_eq_of_after_last 8 last (by decide +kernel) _ fun j => ?_
  blk_simp
  rw [after0_8]
  rfl

/-- The codes array, if every block's codes are its rows. -/
theorem final5 (Q : Vec F S8960x1536 .i8) (h : ∀ (t : Fin cfg0.N) (i : Fin 256) (d : Fin 1536) (o : Fin 8960), o.val = 256 * t.val + i.val →
    wcM (iblk m c 1 t) (T0 m c).rb (ix2 i d) = Q (ix2 o d)) : (dats m 0 c).arrAt 5 cfg0.N = Q := by
  refine (dats m 0 c).arrAt_eq_of_covers 5 _ (by decide +kernel) fun t hf y => ?_
  blk_simp
  rw [after0_5]
  have key : ∀ y : S256x1536.Idx, wcM (iblk m c 1 t) (T0 m c).rb y = Q ((win0_5.blk t).view.emb y) := by
    intro y
    have hN := lt35 t
    idx_vars y
    refine (h t y0 y1 ⟨256 * t.val + y0.val, by omega⟩ rfl).trans ?_
    blk_ext [idx t]
  exact key y

theorem final6 (Q : Vec F S8960x24 .f32) (h : ∀ (t : Fin cfg0.N) (i : Fin 256) (d : Fin 24) (o : Fin 8960), o.val = 256 * t.val + i.val →
    wsM (iblk m c 1 t) (T0 m c).rb (ix2 i d) = Q (ix2 o d)) : (dats m 0 c).arrAt 6 cfg0.N = Q := by
  refine (dats m 0 c).arrAt_eq_of_covers 6 _ (by decide +kernel) fun t hf y => ?_
  blk_simp
  rw [after0_6]
  have key : ∀ y : S256x24.Idx, wsM (iblk m c 1 t) (T0 m c).rb y = Q ((win0_6.blk t).view.emb y) := by
    intro y
    have hN := lt35 t
    idx_vars y
    refine (h t y0 y1 ⟨256 * t.val + y0.val, by omega⟩ rfl).trans ?_
    blk_ext [idx t]
  exact key y

end Cert.KernelIdeal.Grad

end
-- ==== Proof.Grad.Accum.lean ====
/- The accumulators after all the steps, over the extended reals: sums over blocks of 256 rows, put together to sums over all 8960. -/
module

public import proofs.«01_k».proof.Proof.Grad.Tokens
public import proofs.«01_k».proof.Proof.Grad.Blocks

@[expose] public section

set_option maxRecDepth 16384

noncomputable section

namespace Cert.KernelIdeal.Grad

open Idealize.ShloMosaic Idealize.ShloMosaic.TcCoe Idealize.SL.Sem
open Cert.KernelIdeal Cert.KernelIdeal.Gen Cert.Spec

/-! ## Sums by blocks -/

/-- The sum over the rows of block `n`, -/
def tile (g : Fin 8960 → EReal) (n : ℕ) : EReal := ∑ o : Fin 256, if h : 256 * n + o.val < 8960 then g ⟨256 * n + o.val, h⟩ else 0
/-- and the two rows of block `n` that one lane of 128 gets. -/
def laneSum (g : Fin 8960 → EReal) (l : Fin 128) (n : ℕ) : EReal :=
  (if h : 256 * n + l.val < 8960 then g ⟨256 * n + l.val, h⟩ else 0)
    + (if h : 256 * n + (128 + l.val) < 8960 then g ⟨256 * n + (128 + l.val), h⟩ else 0)

theorem tile_total (g : Fin 8960 → EReal) : ∑ n ∈ Finset.range 35, tile g n = ∑ o : Fin 8960, g o := by
  rw [Fin.sum_univ_tiles 35 256 rfl g, Finset.sum_range]
  refine Finset.sum_congr rfl fun n _ => Finset.sum_congr rfl fun o _ => ?_
  rw [dif_pos (by omega)]
  exact congrArg g (Fin.ext (by simp only; omega))

theorem lane_total (g : Fin 8960 → EReal) (n : ℕ) : ∑ l : Fin 128, laneSum g l n = tile g n := by
  unfold laneSum tile
  rw [Finset.sum_add_distrib]
  exact (Fin.sum_univ_add (a := 128) (b := 128) (fun o : Fin (128 + 128) => if h : 256 * n + o.val < 8960 then g ⟨256 * n + o.val, h⟩ else 0)).symm

theorem tile_of (g : Fin 8960 → EReal) (n : ℕ) (hn : n < 35) (f : Fin 256 → EReal)
    (h : ∀ (o : Fin 256) (q : Fin 8960), q.val = 256 * n + o.val → f o = g q) : ∑ o : Fin 256, f o = tile g n := by
  unfold tile
  refine Finset.sum_congr rfl fun o _ => ?_
  rw [dif_pos (by omega)]
  exact h o ⟨256 * n + o.val, by omega⟩ rfl

/-! ## The blocks the steps read -/

variable (m : (ℓ : Loc nD τ sig) → Buf (Elt Ideal) ℓ) (c : Dev nD)

/-- The tokens, the weights and the rotation. -/
def X : FVec Ideal S512x1536 .bf16 := m ((c : Thread nD τ).loc main_arg0)
def W : FVec Ideal S8960x1536 .bf16 := m ((c : Thread nD τ).loc main_arg1)
def R : FVec Ideal S1536x1536 .f32 := m ((c : Thread nD τ).loc main_arg2)

theorem blk_X (t : Fin cfg0.N) : iblk m c 0 t = X m c := by
  have key : ∀ y : S512x1536.Idx, (iblk m c 0 t : FVec Ideal S512x1536 .bf16) y = X m c y := by
    intro y; idx_vars y; exact blk0 m c t y0 y1
  exact funext key
theorem blk_R (t : Fin cfg0.N) : iblk m c 2 t = R m c := by
  have key : ∀ y : S1536x1536.Idx, (iblk m c 2 t : FVec Ideal S1536x1536 .f32) y = R m c y := by
    intro y; idx_vars y; exact blk2 m c t y0 y1
  exact funext key
theorem row_W (t : Fin cfg0.N) (o : Fin 256) (q : Fin 8960) (h : q.val = 256 * t.val + o.val) :
    mat (φ := .bf16) (iblk m c 1 t) o = mat (W m c) q :=
  funext fun d => blk1 m c t o d q h
theorem T0_eq : T0 m c = toks (X m c) (R m c) := by
  unfold T0; rw [blk_X, blk_R]

/-! ## The accumulators -/

theorem zero_dxr (n : Fin 512) (d : Fin 1536) : (acc0 (F := Ideal)).dxr (ix2 n d) = 0 := by
  have e : (acc0 (F := Ideal)).dxr = k0_pay15 (F := Ideal) := rfl
  rw [e]; pointwise [k0_pay15]
theorem zero_l2 (n : Fin 512) (l : Fin 128) : (acc0 (F := Ideal)).l2 (ix2 n l) = 0 := by
  have e : (acc0 (F := Ideal)).l2 = k0_pay16 (F := Ideal) := rfl
  rw [e]; pointwise [k0_pay16]
theorem zero_gt (i j : Fin 1536) : (acc0 (F := Ideal)).gt (ix2 i j) = 0 := by
  have e : (acc0 (F := Ideal)).gt = k0_pay17 (F := Ideal) := rfl
  rw [e]; pointwise [k0_pay17]

/-- What row `o` adds to the token derivative, to the squared error and to the gradient. -/
def fDxr (n : Fin 512) (d : Fin 1536) (o : Fin 8960) : EReal :=
  dy (mat (X m c)) (mat (R m c)) n (mat (W m c) o) * wb (rot (mat (R m c)) (mat (W m c) o)) d
def fSq (n : Fin 512) (o : Fin 8960) : EReal :=
  er (mat (X m c)) (mat (R m c)) n (mat (W m c) o) * er (mat (X m c)) (mat (R m c)) n (mat (W m c) o)
def fGt (i j : Fin 1536) (o : Fin 8960) : EReal := dwr (mat (X m c)) (mat (R m c)) (mat (W m c) o) i * mat (W m c) o j

theorem add_dxr (t : Fin cfg0.N) (A : Acc Ideal) (n : Fin 512) (d : Fin 1536) :
    (step (iblk m c 0 t) (iblk m c 1 t) (T0 m c) A).dxr (ix2 n d) = A.dxr (ix2 n d) + tile (fDxr m c n d) t.val := by
  rw [blk_X, T0_eq, step_dxr]
  refine congrArg _ (tile_of _ _ (lt35 t) _ fun o q h => ?_)
  rw [row_W m c t o q h]; rfl
theorem add_l2 (t : Fin cfg0.N) (A : Acc Ideal) (n : Fin 512) (l : Fin 128) :
    (step (iblk m c 0 t) (iblk m c 1 t) (T0 m c) A).l2 (ix2 n l) = A.l2 (ix2 n l) + laneSum (fSq m c n) l t.val := by
  have ht := lt35 t
  rw [blk_X, T0_eq, step_l2]
  unfold laneSum
  rw [dif_pos (by omega), dif_pos (by omega),
    row_W m c t ⟨l.val, by omega⟩ ⟨256 * t.val + l.val, by omega⟩ rfl,
    row_W m c t ⟨128 + l.val, by omega⟩ ⟨256 * t.val + (128 + l.val), by omega⟩ rfl]
  rfl
theorem add_gt (t : Fin cfg0.N) (A : Acc Ideal) (i j : Fin 1536) :
    (step (iblk m c 0 t) (iblk m c 1 t) (T0 m c) A).gt (ix2 i j) = A.gt (ix2 i j) + tile (fGt m c i j) t.val := by
  rw [blk_X, T0_eq, step_gt]
  refine congrArg _ (tile_of _ _ (lt35 t) _ fun o q h => ?_)
  rw [row_W m c t o q h]; rfl

theorem acc_dxr (i : Fin 512) (d : Fin 1536) (n : ℕ) : ∀ h : n < cfg0.N,
    (accAt m c n h).dxr (ix2 i d) = ∑ s ∈ Finset.range (n + 1), tile (fDxr m c i d) s := by
  induction n with
  | zero => intro h; rw [accAt, add_dxr, zero_dxr, zero_add, Finset.sum_range_one]
  | succ n ih => intro h; rw [accAt, add_dxr, ih, Finset.sum_range_succ _ (n + 1)]
theorem acc_l2 (i : Fin 512) (l : Fin 128) (n : ℕ) : ∀ h : n < cfg0.N,
    (accAt m c n h).l2 (ix2 i l) = ∑ s ∈ Finset.range (n + 1), laneSum (fSq m c i) l s := by
  induction n with
  | zero => intro h; rw [accAt, add_l2, zero_l2, zero_add, Finset.sum_range_one]
  | succ n ih => intro h; rw [accAt, add_l2, ih, Finset.sum_range_succ _ (n + 1)]
theorem acc_gt (i j : Fin 1536) (n : ℕ) : ∀ h : n < cfg0.N,
    (accAt m c n h).gt (ix2 i j) = ∑ s ∈ Finset.range (n + 1), tile (fGt m c i j) s := by
  induction n with
  | zero => intro h; rw [accAt, add_gt, zero_gt, zero_add, Finset.sum_range_one]
  | succ n ih => intro h; rw [accAt, add_gt, ih, Finset.sum_range_succ _ (n + 1)]

/-! ## The last step's results -/

theorem lt_all (h : 34 < cfg0.N) (n : Fin 512) : ltM (accAt m c 34 h) (ix2 n 0) = Spec.lt (mat (X m c)) (mat (W m c)) (mat (R m c)) n := by
  have e : ltM (accAt m c 34 h) = k0_pay2 (F := Ideal) (accAt m c 34 h).l2 := rfl
  rw [e, lt_at]
  simp only [acc_l2]
  rw [Finset.sum_comm]
  simp only [lane_total]
  rw [tile_total]
  rfl

theorem gt_all (h : 34 < cfg0.N) (i j : Fin 1536) : (fin (iblk m c 0 last) (accAt m c 34 h)).gt (ix2 i j)
    = Spec.gt (mat (X m c)) (mat (W m c)) (mat (R m c)) i j := by
  have e : (fin (iblk m c 0 last) (accAt m c 34 h)).gt
      = k0_pay3 (F := Ideal) (accAt m c 34 h).gt (accAt m c 34 h).dxr (iblk m c 0 last) := rfl
  have k : ∀ A : Acc Ideal, k0_pay3 (F := Ideal) A.gt A.dxr (X m c) (ix2 i j)
      = A.gt (ix2 i j) + ∑ n : Fin 512, A.dxr (ix2 n i) * X m c (ix2 n j) := fun A => fin_at (X m c) A.gt A.dxr i j
  rw [e, blk_X, k, acc_gt, tile_total]
  unfold Spec.gt
  refine congrArg₂ (· + ·) (Finset.sum_congr rfl fun o _ => rfl) (Finset.sum_congr rfl fun n _ => congrArg (· * mat (X m c) n j) ?_)
  rw [acc_dxr, tile_total]
  rfl

end Cert.KernelIdeal.Grad

end
-- ==== Proof.Ref.Rows.lean ====
/- The reference's results as the row functions of `Cert.Spec`: first each array it computes, from the arrays before it. -/
module

public import proofs.«01_k».proof.Proof.Gen.ReferenceIdeal.Skeleton
public import proofs.«01_k».proof.Proof.Grad.Spec
public import Idealize.ShloMosaic.Lib.Pipeline.ValueKit

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen

variable {F : FTy → Type} [FloatOps F] [Named F]

/-- The largest magnitudes of rows of tokens, -/
def tokMax (y : FVec F S512x1536 .f32) : FVec F S512x1 .f32 :=
  have v6 : FVec F S512x1536 .f32 := absf y
  have v7 : FVec F S512 .f32 := multiReduction .maximumf [1] S512 v6 0xFF800000#32 reduces_S512x1536_S512 (.inl rfl) rfl
  have v8 : FVec F S512x1 .f32 := shapeCast S512x1 v7 shapeCasts_S512_S512x1
  v8

/-- The scales of rows of tokens, -/
def tokScale (v8 : FVec F S512x1 .f32) : FVec F S512x1 .f32 :=
  have cst_7 : F .f32 := Scalar.ofBits .f32 0x00000000#32
  have v9 : FVec F S512x1 .f32 := broadcast S512x1 cst_7
  have v10 : IVec S512x1 1 := cmpf .oeq v8 v9
  have cst_8 : F .f32 := Scalar.ofBits .f32 0x42FE0000#32
  have v11 : FVec F S512x1 .f32 := broadcast S512x1 cst_8
  have v12 : FVec F S512x1 .f32 := divf v8 v11
  have cst_9 : F .f32 := Scalar.ofBits .f32 0x3F800000#32
  have v13 : FVec F S512x1 .f32 := broadcast S512x1 cst_9
  have v14 : FVec F S512x1 .f32 := select v10 v13 v12
  v14

/-- and their codes. -/
def tokCode (y : FVec F S512x1536 .f32) (s : FVec F S512x1 .f32) : IVec S512x1536 8 :=
  have v15 : FVec F S512x1536 .f32 := broadcastTo S512x1536 s broadcasts_S512x1_S512x1536
  have v16 : FVec F S512x1536 .f32 := divf y v15
  have v17 : FVec F S512x1536 .f32 := roundeven v16
  have cst_10 : F .f32 := Scalar.ofBits .f32 0xC2FE0000#32
  have cst_11 : F .f32 := Scalar.ofBits .f32 0x42FE0000#32
  have v18 : FVec F S512x1536 .f32 := broadcast S512x1536 cst_10
  have v19 : FVec F S512x1536 .f32 := maximumf v18 v17
  have v20 : FVec F S512x1536 .f32 := broadcast S512x1536 cst_11
  have v21 : FVec F S512x1536 .f32 := minimumf v20 v19
  have v22 : IVec S512x1536 8 := fptosi 8 v21
  v22

/-- The largest magnitudes of groups of weights, -/
def wMax (y : FVec F S8960x24x64 .f32) : FVec F S8960x24 .f32 :=
  have v24 : FVec F S8960x24x64 .f32 := absf y
  have v25 : FVec F S8960x24 .f32 := multiReduction .maximumf [2] S8960x24 v24 0xFF800000#32 reduces_S8960x24x64_S8960x24 (.inl rfl) rfl
  v25

/-- The scales of groups of weights, -/
def wScale (v25 : FVec F S8960x24 .f32) : FVec F S8960x24 .f32 :=
  have cst_13 : F .f32 := Scalar.ofBits .f32 0x00000000#32
  have v26 : FVec F S8960x24 .f32 := broadcast S8960x24 cst_13
  have v27 : IVec S8960x24 1 := cmpf .oeq v25 v26
  have cst_14 : F .f32 := Scalar.ofBits .f32 0x40E00000#32
  have v28 : FVec F S8960x24 .f32 := broadcast S8960x24 cst_14
  have v29 : FVec F S8960x24 .f32 := divf v25 v28
  have cst_15 : F .f32 := Scalar.ofBits .f32 0x3F800000#32
  have v30 : FVec F S8960x24 .f32 := broadcast S8960x24 cst_15
  have v31 : FVec F S8960x24 .f32 := select v27 v30 v29
  v31

/-- and the weights rounded to integers and clipped. -/
def wQuant (y : FVec F S8960x24x64 .f32) (s : FVec F S8960x24 .f32) : FVec F S8960x24x64 .f32 :=
  have v32 : FVec F S8960x24x1 .f32 := shapeCast S8960x24x1 s shapeCasts_S8960x24_S8960x24x1
  have v33 : FVec F S8960x24x64 .f32 := broadcastTo S8960x24x64 v32 broadcasts_S8960x24x1_S8960x24x64
  have v34 : FVec F S8960x24x64 .f32 := divf y v33
  have v35 : FVec F S8960x24x64 .f32 := roundeven v34
  have cst_16 : F .f32 := Scalar.ofBits .f32 0xC0E00000#32
  have cst_17 : F .f32 := Scalar.ofBits .f32 0x40E00000#32
  have v36 : FVec F S8960x24x64 .f32 := broadcast S8960x24x64 cst_16
  have v37 : FVec F S8960x24x64 .f32 := maximumf v36 v35
  have v38 : FVec F S8960x24x64 .f32 := broadcast S8960x24x64 cst_17
  have v39 : FVec F S8960x24x64 .f32 := minimumf v38 v37
  v39

variable (x : FVec Ideal S512x1536 .bf16) (w : FVec Ideal S8960x1536 .bf16) (r : FVec Ideal S1536x1536 .f32)

theorem xr_at (n : Fin 512) (d : Fin 1536) : k0_pay3 (F := Ideal) x r (ix2 n d) = ∑ j : Fin 1536, x (ix2 n j) * r (ix2 j d) := by
  pointwise [k0_pay3, k0_pay2]

theorem tokMax_at (y : FVec Ideal S512x1536 .f32) (n : Fin 512) : tokMax y (ix2 n 0) = Spec.big fun d => y (ix2 n d) := by
  pointwise [tokMax, Spec.big]

theorem tokScale_at (y : FVec Ideal S512x1 .f32) (n : Fin 512) : tokScale y (ix2 n 0) = Spec.scale 0x42FE0000#32 (y (ix2 n 0)) := by
  pointwise [tokScale, Spec.scale]

theorem xs_at (n : Fin 512) : k0_pay4 (F := Ideal) x r (ix2 n 0) = Spec.xs fun d => k0_pay3 (F := Ideal) x r (ix2 n d) := by
  have e : k0_pay4 (F := Ideal) x r = tokScale (tokMax (k0_pay3 (F := Ideal) x r)) := rfl
  rw [e, tokScale_at, tokMax_at, Spec.xs]

theorem tokCode_at (y : FVec Ideal S512x1536 .f32) (s : FVec Ideal S512x1 .f32) (n : Fin 512) (d : Fin 1536) : tokCode y s (ix2 n d)
    = FloatOps.fptosi (F := Ideal) (φ := .f32) 8 (Spec.quant 0x42FE0000#32 0xC2FE0000#32 (y (ix2 n d)) (s (ix2 n 0))) := by
  pointwise [tokCode, Spec.quant]

theorem xc_at (n : Fin 512) (d : Fin 1536) : k0_pay5 (F := Ideal) x r (ix2 n d)
    = FloatOps.fptosi (F := Ideal) (φ := .f32) 8 (Spec.quant 0x42FE0000#32 0xC2FE0000#32 (k0_pay3 (F := Ideal) x r (ix2 n d)) (k0_pay4 (F := Ideal) x r (ix2 n 0))) := by
  have e : k0_pay5 (F := Ideal) x r = tokCode (k0_pay3 (F := Ideal) x r) (k0_pay4 (F := Ideal) x r) := rfl
  rw [e, tokCode_at]

theorem wr_at (o : Fin 8960) (g : Fin 24) (k : Fin 64) : k0_pay6 (F := Ideal) w r (ix3 o g k)
    = ∑ j : Fin 1536, w (ix2 o j) * r (ix2 j (Spec.chan g k)) := by
  pointwise [k0_pay6, k0_pay2, Spec.chan]

theorem wMax_at (y : FVec Ideal S8960x24x64 .f32) (o : Fin 8960) (g : Fin 24) : wMax y (ix2 o g) = Spec.big fun k => y (ix3 o g k) := by
  pointwise [wMax, Spec.big]

theorem wScale_at (y : FVec Ideal S8960x24 .f32) (o : Fin 8960) (g : Fin 24) : wScale y (ix2 o g) = Spec.scale 0x40E00000#32 (y (ix2 o g)) := by
  pointwise [wScale, Spec.scale]

theorem ws_at (o : Fin 8960) (g : Fin 24) : k0_pay7 (F := Ideal) w r (ix2 o g)
    = Spec.scale 0x40E00000#32 (Spec.big fun k => k0_pay6 (F := Ideal) w r (ix3 o g k)) := by
  have e : k0_pay7 (F := Ideal) w r = wScale (wMax (k0_pay6 (F := Ideal) w r)) := rfl
  rw [e, wScale_at, wMax_at]

theorem wQuant_at (y : FVec Ideal S8960x24x64 .f32) (s : FVec Ideal S8960x24 .f32) (o : Fin 8960) (g : Fin 24) (k : Fin 64) : wQuant y s (ix3 o g k)
    = Spec.quant 0x40E00000#32 0xC0E00000#32 (y (ix3 o g k)) (s (ix2 o g)) := by
  pointwise [wQuant, Spec.quant]

theorem wq_at (o : Fin 8960) (g : Fin 24) (k : Fin 64) : k0_pay8 (F := Ideal) w r (ix3 o g k)
    = Spec.quant 0x40E00000#32 0xC0E00000#32 (k0_pay6 (F := Ideal) w r (ix3 o g k)) (k0_pay7 (F := Ideal) w r (ix2 o g)) := by
  have e : k0_pay8 (F := Ideal) w r = wQuant (k0_pay6 (F := Ideal) w r) (k0_pay7 (F := Ideal) w r) := rfl
  rw [e, wQuant_at]

variable (xs : FVec Ideal S512x1 .f32) (xc : IVec S512x1536 8) (ws : FVec Ideal S8960x24 .f32) (wq : FVec Ideal S8960x24x64 .f32)

theorem wc_at (o : Fin 8960) (j : Fin 1536) : k0_pay9 (F := Ideal) wq (ix2 o j)
    = FloatOps.fptosi (F := Ideal) (φ := .f32) 8 (wq (ix3 o (Spec.grp j) (Spec.plc j))) := by
  pointwise [k0_pay9, Spec.grp, Spec.plc]

theorem wb_at (o : Fin 8960) (j : Fin 1536) : k0_pay10 (F := Ideal) ws wq (ix2 o j)
    = FloatOps.sitofp (F := Ideal) .bf16 (FloatOps.fptosi (F := Ideal) (φ := .f32) 8 (wq (ix3 o (Spec.grp j) (Spec.plc j))))
      * ws (ix2 o (Spec.grp j)) := by
  pointwise [k0_pay10, k0_pay9, Spec.grp, Spec.plc]

theorem er_at (n : Fin 512) (o : Fin 8960) : k0_pay12 (F := Ideal) x w xs xc ws wq (ix2 n o)
    = (∑ d : Fin 1536, FloatOps.sitofp (F := Ideal) .bf16 (xc (ix2 n d)) * k0_pay10 (F := Ideal) ws wq (ix2 o d)) * xs (ix2 n 0)
      - ∑ d : Fin 1536, x (ix2 n d) * w (ix2 o d) := by
  pointwise [k0_pay12, k0_pay11]

theorem lt_at (n : Fin 512) : k0_pay13 (F := Ideal) x w xs xc ws wq (ix2 n 0)
    = Ideal.div (∑ o : Fin 8960, k0_pay12 (F := Ideal) x w xs xc ws wq (ix2 n o) * k0_pay12 (F := Ideal) x w xs xc ws wq (ix2 n o))
      (Ideal.ofBits FTy.f32 0x460C0000#32) := by
  pointwise [k0_pay13]

theorem dy_at (n : Fin 512) (o : Fin 8960) : k0_pay14 (F := Ideal) x w xs xc ws wq (ix2 n o)
    = k0_pay12 (F := Ideal) x w xs xc ws wq (ix2 n o) * Ideal.ofBits FTy.f32 0x34EA0EA1#32 := by
  pointwise [k0_pay14]

theorem dwr_at (o : Fin 8960) (i : Fin 1536) : k0_pay15 (F := Ideal) x w xs xc ws wq (ix2 o i)
    = ∑ n : Fin 512, (k0_pay14 (F := Ideal) x w xs xc ws wq (ix2 n o) * xs (ix2 n 0)) * FloatOps.sitofp (F := Ideal) .bf16 (xc (ix2 n i)) := by
  pointwise [k0_pay15, k0_pay11]

theorem left_at (j i : Fin 1536) : k0_pay16 (F := Ideal) x w xs xc ws wq (ix2 j i)
    = ∑ n : Fin 512, x (ix2 n j) * ∑ o : Fin 8960, k0_pay14 (F := Ideal) x w xs xc ws wq (ix2 n o) * k0_pay10 (F := Ideal) ws wq (ix2 o i) := by
  pointwise [k0_pay16]

theorem gt_at (dw : FVec Ideal S8960x1536 .f32) (l : FVec Ideal S1536x1536 .f32) (i j : Fin 1536) : k0_pay1 (F := Ideal) w dw l (ix2 i j)
    = l (ix2 j i) + ∑ o : Fin 8960, w (ix2 o j) * dw (ix2 o i) := by
  pointwise [k0_pay1]

end Cert.ReferenceIdeal.Rows

end
-- ==== Proof.Ref.Results.lean ====
/- The reference's six results as the row functions of `Cert.Spec` of its three arguments. -/
module

public import proofs.«01_k».proof.Proof.Ref.Rows

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.Spec

variable (x : FVec Ideal S512x1536 .bf16) (w : FVec Ideal S8960x1536 .bf16) (r : FVec Ideal S1536x1536 .f32)

theorem xr_row (n : Fin 512) : (fun d => k0_pay3 (F := Ideal) x r (ix2 n d)) = rot (mat r) (mat x n) :=
  funext fun d => xr_at x r n d

theorem wr_row (o : Fin 8960) (g : Fin 24) (k : Fin 64) : k0_pay6 (F := Ideal) w r (ix3 o g k) = rot (mat r) (mat w o) (chan g k) :=
  wr_at w r o g k

/-- The tokens' scales, -/
theorem xs_eq (n : Fin 512) : k0_pay4 (F := Ideal) x r (ix2 n 0) = Spec.xs (rot (mat r) (mat x n)) := by
  rw [xs_at, xr_row]

/-- codes, -/
theorem xc_eq (n : Fin 512) (d : Fin 1536) : k0_pay5 (F := Ideal) x r (ix2 n d)
    = FloatOps.fptosi (F := Ideal) (φ := .f32) 8 (xq (rot (mat r) (mat x n)) d) := by
  rw [xc_at, xs_eq, congrFun (xr_row x r n) d]; rfl

/-- and what the codes stand for. -/
theorem xb_eq (n : Fin 512) (d : Fin 1536) : FloatOps.sitofp (F := Ideal) .bf16 (k0_pay5 (F := Ideal) x r (ix2 n d))
    = xq (rot (mat r) (mat x n)) d := by
  rw [xc_eq]; exact xq_back _ _

/-- The weights' scales, -/
theorem ws_eq (o : Fin 8960) (g : Fin 24) : k0_pay7 (F := Ideal) w r (ix2 o g) = Spec.ws (rot (mat r) (mat w o)) g := by
  rw [ws_at]
  simp only [wr_row]
  rfl

theorem wq_eq (o : Fin 8960) (j : Fin 1536) : k0_pay8 (F := Ideal) w r (ix3 o (grp j) (plc j)) = Spec.wq (rot (mat r) (mat w o)) j := by
  rw [wq_at, wr_row, ws_eq, chan_grp]; rfl

/-- codes, -/
theorem wc_eq (o : Fin 8960) (j : Fin 1536) : k0_pay9 (F := Ideal) (k0_pay8 (F := Ideal) w r) (ix2 o j)
    = FloatOps.fptosi (F := Ideal) (φ := .f32) 8 (Spec.wq (rot (mat r) (mat w o)) j) := by
  rw [wc_at, wq_eq]

/-- and quantised values. -/
theorem wb_eq (o : Fin 8960) (j : Fin 1536) : k0_pay10 (F := Ideal) (k0_pay7 (F := Ideal) w r) (k0_pay8 (F := Ideal) w r) (ix2 o j)
    = Spec.wb (rot (mat r) (mat w o)) j := by
  rw [wb_at, wq_eq, ws_eq, Spec.wq, wq_back]; rfl

/-- The errors, -/
theorem er_eq (n : Fin 512) (o : Fin 8960) : k0_pay12 (F := Ideal) x w (k0_pay4 (F := Ideal) x r) (k0_pay5 (F := Ideal) x r) (k0_pay7 (F := Ideal) w r) (k0_pay8 (F := Ideal) w r) (ix2 n o)
    = er (mat x) (mat r) n (mat w o) := by
  rw [er_at, xs_eq]
  simp only [xb_eq, wb_eq]
  rfl

/-- the loss of each token, -/
theorem lt_eq (n : Fin 512) : k0_pay13 (F := Ideal) x w (k0_pay4 (F := Ideal) x r) (k0_pay5 (F := Ideal) x r) (k0_pay7 (F := Ideal) w r) (k0_pay8 (F := Ideal) w r) (ix2 n 0)
    = lt (mat x) (mat w) (mat r) n := by
  rw [lt_at, c8960, Ideal.div_coe (by norm_num)]
  simp only [er_eq]
  rfl

/-- the errors' derivatives, -/
theorem dy_eq (n : Fin 512) (o : Fin 8960) : k0_pay14 (F := Ideal) x w (k0_pay4 (F := Ideal) x r) (k0_pay5 (F := Ideal) x r) (k0_pay7 (F := Ideal) w r) (k0_pay8 (F := Ideal) w r) (ix2 n o)
    = dy (mat x) (mat r) n (mat w o) := by
  rw [dy_at, er_eq]; rfl

theorem dwr_eq (o : Fin 8960) (i : Fin 1536) : k0_pay15 (F := Ideal) x w (k0_pay4 (F := Ideal) x r) (k0_pay5 (F := Ideal) x r) (k0_pay7 (F := Ideal) w r) (k0_pay8 (F := Ideal) w r) (ix2 o i)
    = dwr (mat x) (mat r) (mat w o) i := by
  rw [dwr_at]
  unfold dwr
  exact Finset.sum_congr rfl fun n _ => by rw [dy_eq, xs_eq, xb_eq, mul_comm]

theorem left_eq (j i : Fin 1536) : k0_pay16 (F := Ideal) x w (k0_pay4 (F := Ideal) x r) (k0_pay5 (F := Ideal) x r) (k0_pay7 (F := Ideal) w r) (k0_pay8 (F := Ideal) w r) (ix2 j i)
    = ∑ n : Fin 512, mat x n j * dxr (mat x) (mat w) (mat r) n i := by
  rw [left_at]
  exact Finset.sum_congr rfl fun n _ => congrArg (mat x n j * ·) (Finset.sum_congr rfl fun o _ => by rw [dy_eq, wb_eq])

/-- and the gradient. -/
theorem gt_eq (i j : Fin 1536) : k0_pay1 (F := Ideal) w
      (k0_pay15 (F := Ideal) x w (k0_pay4 (F := Ideal) x r) (k0_pay5 (F := Ideal) x r) (k0_pay7 (F := Ideal) w r) (k0_pay8 (F := Ideal) w r))
      (k0_pay16 (F := Ideal) x w (k0_pay4 (F := Ideal) x r) (k0_pay5 (F := Ideal) x r) (k0_pay7 (F := Ideal) w r) (k0_pay8 (F := Ideal) w r)) (ix2 i j)
    = gt (mat x) (mat w) (mat r) i j := by
  rw [gt_at, left_eq, add_comm]
  unfold gt
  refine congrArg₂ (· + ·) (Finset.sum_congr rfl fun o _ => ?_) (Finset.sum_congr rfl fun n _ => mul_comm _ _)
  rw [dwr_eq]; exact mul_comm _ _

end Cert.ReferenceIdeal.Rows

end
-- ==== Proof.Ref.Value.lean ====
/- What the reference's region leaves in its six result arrays, as functions of its arguments: its one grid point reads whole
   arrays and stores whole arrays. -/
module

public import proofs.«01_k».proof.Proof.Gen.ReferenceIdeal.Frame
public import proofs.«01_k».proof.Proof.Gen.ReferenceIdeal.Run
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S512x1536.Idx) : ((cfg0.win 0).blk t).view.emb j = j := by
  obtain ⟨e0, e1⟩ := idx_zero0 t
  funext a; apply Fin.ext
  match a with
  | ⟨0, _⟩ => show win0_0.index t (0 : Fin 2) * 512 + 1 * (j 0).val = (j 0).val; omega
  | ⟨1, _⟩ => show win0_0.index t (1 : Fin 2) * 1536 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S8960x1536.Idx) : ((cfg0.win 1).blk t).view.emb j = j := by
  obtain ⟨e0, e1⟩ := idx_zero1 t
  funext a; apply Fin.ext
  match a with
  | ⟨0, _⟩ => show win0_1.index t (0 : Fin 2) * 8960 + 1 * (j 0).val = (j 0).val; omega
  | ⟨1, _⟩ => show win0_1.index t (1 : Fin 2) * 1536 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1536x1536.Idx) : ((cfg0.win 2).blk t).view.emb j = j := by
  obtain ⟨e0, e1⟩ := idx_zero2 t
  funext a; apply Fin.ext
  match a with
  | ⟨0, _⟩ => show win0_2.index t (0 : Fin 2) * 1536 + 1 * (j 0).val = (j 0).val; omega
  | ⟨1, _⟩ => show win0_2.index t (1 : Fin 2) * 1536 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S512x1536.Idx) : ((cfg0.win 3).blk t).view.emb j = j := by
  obtain ⟨e0, e1⟩ := idx_zero3 t
  funext a; apply Fin.ext
  match a with
  | ⟨0, _⟩ => show win0_3.index t (0 : Fin 2) * 512 + 1 * (j 0).val = (j 0).val; omega
  | ⟨1, _⟩ => show win0_3.index t (1 : Fin 2) * 1536 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S512x1.Idx) : ((cfg0.win 4).blk t).view.emb j = j := by
  obtain ⟨e0, e1⟩ := idx_zero4 t
  funext a; apply Fin.ext
  match a with
  | ⟨0, _⟩ => show win0_4.index t (0 : Fin 2) * 512 + 1 * (j 0).val = (j 0).val; omega
  | ⟨1, _⟩ => show win0_4.index t (1 : Fin 2) * 1 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S8960x1536.Idx) : ((cfg0.win 5).blk t).view.emb j = j := by
  obtain ⟨e0, e1⟩ := idx_zero5 t
  funext a; apply Fin.ext
  match a with
  | ⟨0, _⟩ => show win0_5.index t (0 : Fin 2) * 8960 + 1 * (j 0).val = (j 0).val; omega
  | ⟨1, _⟩ => show win0_5.index t (1 : Fin 2) * 1536 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S8960x24.Idx) : ((cfg0.win 6).blk t).view.emb j = j := by
  obtain ⟨e0, e1⟩ := idx_zero6 t
  funext a; apply Fin.ext
  match a with
  | ⟨0, _⟩ => show win0_6.index t (0 : Fin 2) * 8960 + 1 * (j 0).val = (j 0).val; omega
  | ⟨1, _⟩ => show win0_6.index t (1 : Fin 2) * 24 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S512x1.Idx) : ((cfg0.win 7).blk t).view.emb j = j := by
  obtain ⟨e0, e1⟩ := idx_zero7 t
  funext a; apply Fin.ext
  match a with
  | ⟨0, _⟩ => show win0_7.index t (0 : Fin 2) * 512 + 1 * (j 0).val = (j 0).val; omega
  | ⟨1, _⟩ => show win0_7.index t (1 : Fin 2) * 1 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S1536x1536.Idx) : ((cfg0.win 8).blk t).view.emb j = j := by
  obtain ⟨e0, e1⟩ := idx_zero8 t
  funext a; apply Fin.ext
  match a with
  | ⟨0, _⟩ => show win0_8.index t (0 : Fin 2) * 1536 + 1 * (j 0).val = (j 0).val; omega
  | ⟨1, _⟩ => show win0_8.index t (1 : Fin 2) * 1536 + 1 * (j 1).val = (j 1).val; omega

/-! ### Output window 3: the array after the run -/

/-- What the window's array ends holding: `out0_3` applied to the argument arrays in place of the input blocks (a value that the
    frame states apart, `kK_payN a…`, keeps its loads inside its own definition). -/
abbrev G3 (a0 : Vec F S512x1536 .bf16) (a1 : Vec F S8960x1536 .bf16) (a2 : Vec F S1536x1536 .f32) : Vec F S512x1536 .i8 :=
  k0_pay18 a0 a1 a2

/-- The one store through the whole rectangle leaves its payload. -/
theorem out3_eq (a0 : Vec F S512x1536 .bf16) (a1 : Vec F S8960x1536 .bf16) (a2 : Vec F S1536x1536 .f32) : out0_3 (F := F) a0 a1 a2 = G3 a0 a1 a2 := by
  unfold out0_3
  rw [View.canon_unit_zero hz3]

/-- Cutting the point's block out of `X` and reading `X` through the block's view give the same. -/
theorem cut3_eq (t : Fin cfg0.N) (X : Vec F S512x1536 .i8) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S512x1536.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks (a value that the
    frame states apart, `kK_payN a…`, keeps its loads inside its own definition). -/
abbrev G4 (a0 : Vec F S512x1536 .bf16) (a1 : Vec F S8960x1536 .bf16) (a2 : Vec F S1536x1536 .f32) : Vec F S512x1 .f32 :=
  k0_pay17 a0 a1 a2

/-- The one store through the whole rectangle leaves its payload. -/
theorem out4_eq (a0 : Vec F S512x1536 .bf16) (a1 : Vec F S8960x1536 .bf16) (a2 : Vec F S1536x1536 .f32) : out0_4 (F := F) a0 a1 a2 = G4 a0 a1 a2 := by
  unfold out0_4
  rw [View.canon_unit_zero hz4]

/-- Cutting the point's block out of `X` and reading `X` through the block's view give the same. -/
theorem cut4_eq (t : Fin cfg0.N) (X : Vec F S512x1 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S512x1.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks (a value that the
    frame states apart, `kK_payN a…`, keeps its loads inside its own definition). -/
abbrev G5 (a0 : Vec F S512x1536 .bf16) (a1 : Vec F S8960x1536 .bf16) (a2 : Vec F S1536x1536 .f32) : Vec F S8960x1536 .i8 :=
  k0_pay9 (k0_pay20 a0 a1 a2)

/-- The one store through the whole rectangle leaves its payload. -/
theorem out5_eq (a0 : Vec F S512x1536 .bf16) (a1 : Vec F S8960x1536 .bf16) (a2 : Vec F S1536x1536 .f32) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S8960x1536 .i8) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S8960x1536.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks (a value that the
    frame states apart, `kK_payN a…`, keeps its loads inside its own definition). -/
abbrev G6 (a0 : Vec F S512x1536 .bf16) (a1 : Vec F S8960x1536 .bf16) (a2 : Vec F S1536x1536 .f32) : Vec F S8960x24 .f32 :=
  k0_pay19 a0 a1 a2

/-- The one store through the whole rectangle leaves its payload. -/
theorem out6_eq (a0 : Vec F S512x1536 .bf16) (a1 : Vec F S8960x1536 .bf16) (a2 : Vec F S1536x1536 .f32) : out0_6 (F := F) a0 a1 a2 = G6 a0 a1 a2 := by
  unfold out0_6
  rw [View.canon_unit_zero hz6]

/-- Cutting the point's block out of `X` and reading `X` through the block's view give the same. -/
theorem cut6_eq (t : Fin cfg0.N) (X : Vec F S8960x24 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S8960x24.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ### Output window 7: the array after the run -/

/-- What the window's array ends holding: `out0_7` applied to the argument arrays in place of the input blocks (a value that the
    frame states apart, `kK_payN a…`, keeps its loads inside its own definition). -/
abbrev G7 (a0 : Vec F S512x1536 .bf16) (a1 : Vec F S8960x1536 .bf16) (a2 : Vec F S1536x1536 .f32) : Vec F S512x1 .f32 :=
  k0_pay13 a0 a1 (k0_pay17 a0 a1 a2) (k0_pay18 a0 a1 a2) (k0_pay19 a0 a1 a2) (k0_pay20 a0 a1 a2)

/-- A load of the whole of a block reads the block, and the one store through the whole rectangle leaves its payload. -/
theorem out7_eq (a0 : Vec F S512x1536 .bf16) (a1 : Vec F S8960x1536 .bf16) (a2 : Vec F S1536x1536 .f32) : out0_7 (F := F) a0 a1 a2 = G7 a0 a1 a2 := by
  unfold out0_7
  rw [View.canon_unit_zero hz7, View.ld_unit_zero (S := S512x1536) hz0 _ a0, View.ld_unit_zero (S := S8960x1536) hz1 _ a1]

/-- Cutting the point's block out of `X` and reading `X` through the block's view give the same. -/
theorem cut7_eq (t : Fin cfg0.N) (X : Vec F S512x1 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

/-- Every index of the array is in the point's block. -/
theorem covered7 (i : S512x1.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-! ### Output window 8: the array after the run -/

/-- What the window's array ends holding: `out0_8` applied to the argument arrays in place of the input blocks (a value that the
    frame states apart, `kK_payN a…`, keeps its loads inside its own definition). -/
abbrev G8 (a0 : Vec F S512x1536 .bf16) (a1 : Vec F S8960x1536 .bf16) (a2 : Vec F S1536x1536 .f32) : Vec F S1536x1536 .f32 :=
  k0_pay1 a1 (k0_pay15 a0 a1 (k0_pay17 a0 a1 a2) (k0_pay18 a0 a1 a2) (k0_pay19 a0 a1 a2) (k0_pay20 a0 a1 a2)) (k0_pay16 a0 a1 (k0_pay17 a0 a1 a2) (k0_pay18 a0 a1 a2) (k0_pay19 a0 a1 a2) (k0_pay20 a0 a1 a2))

/-- A load of the whole of a block reads the block, and the one store through the whole rectangle leaves its payload. -/
theorem out8_eq (a0 : Vec F S512x1536 .bf16) (a1 : Vec F S8960x1536 .bf16) (a2 : Vec F S1536x1536 .f32) : out0_8 (F := F) a0 a1 a2 = G8 a0 a1 a2 := by
  unfold out0_8
  rw [View.canon_unit_zero hz8, View.ld_unit_zero (S := S8960x1536) hz1 _ a1, View.ld_unit_zero (S := S512x1536) hz0 _ a0]

/-- Cutting the point's block out of `X` and reading `X` through the block's view give the same. -/
theorem cut8_eq (t : Fin cfg0.N) (X : Vec F S1536x1536 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2)) := by
  show (cfg0.win 8).cut (grid0.coords t) ((dats m 0 c).after 8 t) = _
  rw [after0_8, out8_eq, iblk0_eq, iblk1_eq, iblk2_eq]
  exact cut8_eq t _

/-- Every index of the array is in the point's block. -/
theorem covered8 (i : S1536x1536.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) :=
  ((dats m 0 c).arrAt_eq_of_cover 8 (G8 (V m c main_arg0) (V m c main_arg1) (V m c main_arg2)) (fun t _ => flushed8_eq m c t) covered8).trans (by rw [V_main_arg0, V_main_arg1, V_main_arg2])

end Cert.ReferenceIdeal.Value

end
-- ==== Proof.Ref.Whole.lean ====
/- The reference's results named by its run, read at a place. -/
module

public import proofs.«01_k».proof.Proof.Ref.Results
public import proofs.«01_k».proof.Proof.Ref.Value

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Value Cert.Spec

/-! ## A load of a whole array reads the array -/

section
variable {F : FTy → Type} [FloatOps F]
variable (x : Vec F S512x1536 .bf16) (w : Vec F S8960x1536 .bf16) (r : Vec F S1536x1536 .f32)

theorem pay17_eq : k0_pay17 x w r = k0_pay4 x r := by
  unfold k0_pay17
  rw [View.ld_unit_zero (S := S512x1536) hz0 _ x, View.ld_unit_zero (S := S1536x1536) hz2 _ r]
theorem pay18_eq : k0_pay18 x w r = k0_pay5 x r := by
  unfold k0_pay18
  rw [View.ld_unit_zero (S := S512x1536) hz0 _ x, View.ld_unit_zero (S := S1536x1536) hz2 _ r]
theorem pay19_eq : k0_pay19 x w r = k0_pay7 w r := by
  unfold k0_pay19
  rw [View.ld_unit_zero (S := S8960x1536) hz1 _ w, View.ld_unit_zero (S := S1536x1536) hz2 _ r]
theorem pay20_eq : k0_pay20 x w r = k0_pay8 w r := by
  unfold k0_pay20
  rw [View.ld_unit_zero (S := S8960x1536) hz1 _ w, View.ld_unit_zero (S := S1536x1536) hz2 _ r]

end

variable (x : FVec Ideal S512x1536 .bf16) (w : FVec Ideal S8960x1536 .bf16) (r : FVec Ideal S1536x1536 .f32)

/-! ## The six results -/

theorem G3_at (n : Fin 512) (d : Fin 1536) : G3 (F := Ideal) x w r (ix2 n d)
    = FloatOps.fptosi (F := Ideal) (φ := .f32) 8 (xq (rot (mat r) (mat x n)) d) := by
  have e : G3 (F := Ideal) x w r = k0_pay18 (F := Ideal) x w r := rfl
  rw [e, pay18_eq, xc_eq]
theorem G4_at (n : Fin 512) : G4 (F := Ideal) x w r (ix2 n 0) = Spec.xs (rot (mat r) (mat x n)) := by
  have e : G4 (F := Ideal) x w r = k0_pay17 (F := Ideal) x w r := rfl
  rw [e, pay17_eq, xs_eq]
theorem G5_at (o : Fin 8960) (j : Fin 1536) : G5 (F := Ideal) x w r (ix2 o j)
    = FloatOps.fptosi (F := Ideal) (φ := .f32) 8 (wq (rot (mat r) (mat w o)) j) := by
  have e : G5 (F := Ideal) x w r = k0_pay9 (F := Ideal) (k0_pay20 (F := Ideal) x w r) := rfl
  rw [e, pay20_eq, wc_eq]
theorem G6_at (o : Fin 8960) (g : Fin 24) : G6 (F := Ideal) x w r (ix2 o g) = Spec.ws (rot (mat r) (mat w o)) g := by
  have e : G6 (F := Ideal) x w r = k0_pay19 (F := Ideal) x w r := rfl
  rw [e, pay19_eq, ws_eq]
theorem G7_at (n : Fin 512) : G7 (F := Ideal) x w r (ix2 n 0) = Spec.lt (mat x) (mat w) (mat r) n := by
  have e : G7 (F := Ideal) x w r = k0_pay13 (F := Ideal) x w (k0_pay17 (F := Ideal) x w r) (k0_pay18 (F := Ideal) x w r)
      (k0_pay19 (F := Ideal) x w r) (k0_pay20 (F := Ideal) x w r) := rfl
  rw [e, pay17_eq, pay18_eq, pay19_eq, pay20_eq, lt_eq]
theorem G8_at (i j : Fin 1536) : G8 (F := Ideal) x w r (ix2 i j) = Spec.gt (mat x) (mat w) (mat r) i j := by
  have e : G8 (F := Ideal) x w r = k0_pay1 (F := Ideal) w
      (k0_pay15 (F := Ideal) x w (k0_pay17 (F := Ideal) x w r) (k0_pay18 (F := Ideal) x w r) (k0_pay19 (F := Ideal) x w r) (k0_pay20 (F := Ideal) x w r))
      (k0_pay16 (F := Ideal) x w (k0_pay17 (F := Ideal) x w r) (k0_pay18 (F := Ideal) x w r) (k0_pay19 (F := Ideal) x w r) (k0_pay20 (F := Ideal) x w r)) := rfl
  rw [e, pay17_eq, pay18_eq, pay19_eq, pay20_eq, gt_eq]

end Cert.ReferenceIdeal.Rows

end
-- ==== Proof.Grad.Equal.lean ====
/- The two programs' results are the same: each output array of the kernel is the reference's, as a function of the arguments. -/
module

public import proofs.«01_k».proof.Proof.Grad.Accum
public import proofs.«01_k».proof.Proof.Ref.Whole

@[expose] public section

set_option maxRecDepth 16384

noncomputable section

namespace Cert.KernelIdeal.Grad

open Idealize.ShloMosaic Idealize.ShloMosaic.TcCoe Idealize.SL.Sem
open Cert.KernelIdeal Cert.KernelIdeal.Gen Cert.Spec
open Cert.ReferenceIdeal.Value (G3 G4 G5 G6 G7 G8)
open Cert.ReferenceIdeal.Rows (G3_at G4_at G5_at G6_at G7_at G8_at)

variable (m : (ℓ : Loc nD τ sig) → Buf (Elt Ideal) ℓ) (c : Dev nD)

theorem codes_at (n : Fin 512) (d : Fin 1536) : XC m c (ix2 n d)
    = FloatOps.fptosi (F := Ideal) (φ := .f32) 8 (xq (rot (mat (R m c)) (mat (X m c) n)) d) := by
  unfold XC; rw [blk_X, blk_R, xc_at, rb_mat]
theorem scales_at (n : Fin 512) : XS m c (ix2 n 0) = Spec.xs (rot (mat (R m c)) (mat (X m c) n)) := by
  unfold XS; rw [blk_X, blk_R, xs_at, rb_mat]
theorem T0_rb : mat (φ := .bf16) (T0 m c).rb = mat (R m c) := by
  rw [T0_eq]; exact rb_mat _

/-- The token codes, -/
theorem equal3 : (dats m 0 c).arrAt 3 cfg0.N = G3 (F := Ideal) (X m c) (W m c) (R m c) := by
  rw [final3]
  have key : ∀ y : S512x1536.Idx, XC m c y = G3 (F := Ideal) (X m c) (W m c) (R m c) y := by
    intro y; idx_vars y
    exact (codes_at m c y0 y1).trans (G3_at _ _ _ y0 y1).symm
  exact funext key
/-- the token scales, -/
theorem equal4 : (dats m 0 c).arrAt 4 cfg0.N = G4 (F := Ideal) (X m c) (W m c) (R m c) := by
  rw [final4]
  have key : ∀ y : S512x1.Idx, XS m c y = G4 (F := Ideal) (X m c) (W m c) (R m c) y := by
    intro y; idx_vars y
    obtain rfl : y1 = 0 := Subsingleton.elim _ _
    exact (scales_at m c y0).trans (G4_at _ _ _ y0).symm
  exact funext key
/-- the weight codes, -/
theorem equal5 : (dats m 0 c).arrAt 5 cfg0.N = G5 (F := Ideal) (X m c) (W m c) (R m c) := by
  refine final5 m c _ fun t i d o h => ?_
  rw [wcM_at, T0_rb, row_W m c t i o h]
  exact (G5_at _ _ _ o d).symm
/-- the weight scales, -/
theorem equal6 : (dats m 0 c).arrAt 6 cfg0.N = G6 (F := Ideal) (X m c) (W m c) (R m c) := by
  refine final6 m c _ fun t i d o h => ?_
  rw [wsM_at, T0_rb, row_W m c t i o h]
  exact (G6_at _ _ _ o d).symm
/-- the losses, -/
theorem equal7 : (dats m 0 c).arrAt 7 cfg0.N = G7 (F := Ideal) (X m c) (W m c) (R m c) := by
  rw [final7]
  have key : ∀ y : S512x1.Idx, ltM (accAt m c 34 last.isLt) y = G7 (F := Ideal) (X m c) (W m c) (R m c) y := by
    intro y; idx_vars y
    obtain rfl : y1 = 0 := Subsingleton.elim _ _
    exact (lt_all m c _ y0).trans (G7_at _ _ _ y0).symm
  exact funext key
/-- and the gradient. -/
theorem equal8 : (dats m 0 c).arrAt 8 cfg0.N = G8 (F := Ideal) (X m c) (W m c) (R m c) := by
  rw [final8]
  have key : ∀ y : S1536x1536.Idx, (fin (iblk m c 0 last) (accAt m c 34 last.isLt)).gt y = G8 (F := Ideal) (X m c) (W m c) (R m c) y := by
    intro y; idx_vars y
    exact (gt_all m c _ y0 y1).trans (G8_at _ _ _ y0 y1).symm
  exact funext key

end Cert.KernelIdeal.Grad

end
-- ==== Proof.lean ====
module

public import proofs.«01_k».proof.Defs
public import proofs.«01_k».proof.Proof.Printed.Frame
public import proofs.«01_k».proof.Proof.Grad.Frame
public import proofs.«01_k».proof.Proof.Grad.Host
public import proofs.«01_k».proof.Proof.Grad.Equal
public import proofs.«01_k».proof.Proof.Gen.ReferenceIdeal.Frame
public import proofs.«01_k».proof.Proof.Gen.ReferenceIdeal.Run
public import Idealize.ShloMosaic.Adequacy
public import Idealize.ShloMosaic.Init
public import Idealize.ShloMosaic.Lib.Claim
public import Idealize.ShloMosaic.PureOps.IdealRules

@[expose] public section

set_option maxRecDepth 16384

noncomputable section

namespace Cert.Proof

open Idealize.ShloMosaic Idealize.ShloMosaic.TcCoe Idealize.SL.Sem Cert.Kernel

/-- The constant named `inv_n` stands for 1/8960. -/
theorem preserves : Cert.preserves_Kernel_KernelIdeal :=
  IdealRules.named_const.statement Cert.KernelIdeal.κ "inv_n" .f32 0x38EA0EA1#32 ((1 / 8960 : ℝ) : EReal) rfl

/-- One number per token, by batch and position. -/
def byBatch (l : Vec Ideal Cert.KernelIdeal.S512x1 .f32) : Vec Ideal Cert.KernelIdeal.S2x256 .f32 :=
  shapeCast _ l Cert.KernelIdeal.Facts₀.shapeCasts_S512x1_S2x256
/-- The tokens' codes, by batch and position. -/
def codesByBatch (x : Vec Ideal Cert.KernelIdeal.S512x1536 .i8) : Vec Ideal Cert.KernelIdeal.S2x256x1536 .i8 :=
  shapeCast _ x Cert.KernelIdeal.Facts₀.shapeCasts_S512x1536_S2x256x1536
/-- The mean over the tokens. -/
def mean (l : Vec Ideal Cert.KernelIdeal.S512x1 .f32) : Vec Ideal Cert.KernelIdeal.S_ .f32 :=
  Host.divf (F := Ideal) (φ := .f32) (Host.reduceAdd (F := Ideal) (φ := .f32) (byBatch l) (constant (F := Ideal) Cert.KernelIdeal.S_ .f32 0x00000000#32)
    Cert.KernelIdeal.Facts₀.reducesTo_S2x256_S_d0_1 Cert.KernelIdeal.Facts₀.h_S_) (constant (F := Ideal) Cert.KernelIdeal.S_ .f32 0x44000000#32)

/-- The kernel's run with its seven results as the reference's functions of the arguments. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v0_5) = (Cert.ReferenceIdeal.Value.G8 (F := Ideal) (Cert.KernelIdeal.Grad.X m c) (Cert.KernelIdeal.Grad.W m c) (Cert.KernelIdeal.Grad.R m c))
        ∧ r.2.mem ((c.tc : Thread Cert.KernelIdeal.nD Cert.KernelIdeal.τ).loc Cert.KernelIdeal.main_v3) = mean (Cert.ReferenceIdeal.Value.G7 (F := Ideal) (Cert.KernelIdeal.Grad.X m c) (Cert.KernelIdeal.Grad.W m c) (Cert.KernelIdeal.Grad.R m c))
        ∧ r.2.mem ((c.tc : Thread Cert.KernelIdeal.nD Cert.KernelIdeal.τ).loc Cert.KernelIdeal.main_v1) = byBatch (Cert.ReferenceIdeal.Value.G7 (F := Ideal) (Cert.KernelIdeal.Grad.X m c) (Cert.KernelIdeal.Grad.W m c) (Cert.KernelIdeal.Grad.R m c))
        ∧ r.2.mem ((c.tc : Thread Cert.KernelIdeal.nD Cert.KernelIdeal.τ).loc Cert.KernelIdeal.main_v4) = codesByBatch (Cert.ReferenceIdeal.Value.G3 (F := Ideal) (Cert.KernelIdeal.Grad.X m c) (Cert.KernelIdeal.Grad.W m c) (Cert.KernelIdeal.Grad.R m c))
        ∧ r.2.mem ((c.tc : Thread Cert.KernelIdeal.nD Cert.KernelIdeal.τ).loc Cert.KernelIdeal.main_v5) = byBatch (Cert.ReferenceIdeal.Value.G4 (F := Ideal) (Cert.KernelIdeal.Grad.X m c) (Cert.KernelIdeal.Grad.W m c) (Cert.KernelIdeal.Grad.R m c))
        ∧ r.2.mem ((c.tc : Thread Cert.KernelIdeal.nD Cert.KernelIdeal.τ).loc Cert.KernelIdeal.main_v0_2) = (Cert.ReferenceIdeal.Value.G5 (F := Ideal) (Cert.KernelIdeal.Grad.X m c) (Cert.KernelIdeal.Grad.W m c) (Cert.KernelIdeal.Grad.R m c))
        ∧ r.2.mem ((c.tc : Thread Cert.KernelIdeal.nD Cert.KernelIdeal.τ).loc Cert.KernelIdeal.main_v0_3) = (Cert.ReferenceIdeal.Value.G6 (F := Ideal) (Cert.KernelIdeal.Grad.X m c) (Cert.KernelIdeal.Grad.W m c) (Cert.KernelIdeal.Grad.R m c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) :=
  (θ_run Cert.KernelIdeal.defs _ _).mono (fun r h c => by
      obtain ⟨h0, h1, h2, h3, h4, h5, h6, ha⟩ := h c
      exact ⟨h0.trans (Cert.KernelIdeal.Grad.equal8 m c),
        h1.trans (congrArg mean (Cert.KernelIdeal.Grad.equal7 m c)),
        h2.trans (congrArg byBatch (Cert.KernelIdeal.Grad.equal7 m c)),
        h3.trans (congrArg codesByBatch (Cert.KernelIdeal.Grad.equal3 m c)),
        h4.trans (congrArg byBatch (Cert.KernelIdeal.Grad.equal4 m c)),
        h5.trans (Cert.KernelIdeal.Grad.equal5 m c),
        h6.trans (Cert.KernelIdeal.Grad.equal6 m c), ha⟩)
    (Cert.KernelIdeal.Grad.run m g)

theorem same {α β γ δ : Type} (f : α → β → γ → δ) {a a' : α} {b b' : β} {c c' : γ} (ha : a = a') (hb : b = b') (hc : c = c') : f a b c = f a' b' c' := by
  rw [ha, hb, hc]

/-- From equal arguments both programs end with equal results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, _, _, _, _, _, kernel_run m g, (θ_run Cert.ReferenceIdeal.defs _ _).mono (fun r h c => ?_) (Cert.ReferenceIdeal.Value.run m' g')⟩
  obtain ⟨e0, e1, e2⟩ := hagree c
  obtain ⟨h0, h1, h2, h3, h4, h5, h6, ha⟩ := h c
  exact ⟨h0.trans ((Cert.ReferenceIdeal.Value.final8 m' c).trans (same Cert.ReferenceIdeal.Value.G8 e0 e1 e2)),
      h1.trans (congrArg mean ((Cert.ReferenceIdeal.Value.final7 m' c).trans (same Cert.ReferenceIdeal.Value.G7 e0 e1 e2))),
      h2.trans (congrArg byBatch ((Cert.ReferenceIdeal.Value.final7 m' c).trans (same Cert.ReferenceIdeal.Value.G7 e0 e1 e2))),
      h3.trans (congrArg codesByBatch ((Cert.ReferenceIdeal.Value.final3 m' c).trans (same Cert.ReferenceIdeal.Value.G3 e0 e1 e2))),
      h4.trans (congrArg byBatch ((Cert.ReferenceIdeal.Value.final4 m' c).trans (same Cert.ReferenceIdeal.Value.G4 e0 e1 e2))),
      h5.trans ((Cert.ReferenceIdeal.Value.final5 m' c).trans (same Cert.ReferenceIdeal.Value.G5 e0 e1 e2)),
      h6.trans ((Cert.ReferenceIdeal.Value.final6 m' c).trans (same Cert.ReferenceIdeal.Value.G6 e0 e1 e2)), ha⟩

theorem claim : Cert.Claim := ⟨Cert.Kernel.Gen.facts, Cert.KernelIdeal.Gen.facts, Cert.ReferenceIdeal.Gen.facts,
  fun m ρ _ => Cert.Kernel.Printed.frame m ρ,
  fun m ρ _ => Cert.KernelIdeal.Grad.frame m ρ,
  fun m ρ _ => Cert.ReferenceIdeal.Gen.frame m ρ,
  preserves, algebraic⟩

end Cert.Proof

end
